-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S_ : Shape := ⟨0, ![]⟩

class Facts : Prop where
  bcast_S_S16384x4096 : S_.BroadcastsInDim S16384x4096 (![] : Fin 0 → Fin S16384x4096.rank)
  bcast_S_S4096x4096 : S_.BroadcastsInDim S4096x4096 (![] : Fin 0 → Fin S4096x4096.rank)
  bcast_S_S4096 : S_.BroadcastsInDim S4096 (![] : Fin 0 → Fin S4096.rank)
  bcast_S_S64x4096 : S_.BroadcastsInDim S64x4096 (![] : Fin 0 → Fin S64x4096.rank)
  bcast_S_S64 : S_.BroadcastsInDim S64 (![] : Fin 0 → Fin S64.rank)

variable [Facts]

def fn {F : FTy → Type} [FloatOps F] (main_arg0 : FVec F S16384x4096 .f32) (main_arg1 : FVec F S4096x4096 .f32) (main_arg2 : FVec F S4096 .f32) (main_arg3 : FVec F S64x4096 .f32) (main_arg4 : FVec F S64 .f32) : IVec S16384x4096 1 × IVec S4096x4096 1 × IVec S4096 1 × IVec S64x4096 1 × IVec S64 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  let main_v9 : FVec F S64x4096 .f32 := Host.absf main_arg3
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x4096 : Shape := ⟨2, ![1, 4096]⟩
abbrev S1x64 : Shape := ⟨2, ![1, 64]⟩
abbrev S16384x8 : Shape := ⟨2, ![16384, 8]⟩
abbrev S1x1 : Shape := ⟨2, ![1, 1]⟩
abbrev S1024x4096 : Shape := ⟨2, ![1024, 4096]⟩
abbrev S512x4096 : Shape := ⟨2, ![512, 4096]⟩
abbrev S1x512 : Shape := ⟨2, ![1, 512]⟩
abbrev S64x512 : Shape := ⟨2, ![64, 512]⟩
abbrev S1024x8 : Shape := ⟨2, ![1024, 8]⟩
abbrev S1024x64 : Shape := ⟨2, ![1024, 64]⟩
abbrev S8x64 : Shape := ⟨2, ![8, 64]⟩
abbrev S1024x512 : Shape := ⟨2, ![1024, 512]⟩
abbrev S1024 : Shape := ⟨1, ![1024]⟩
abbrev S1024x1 : Shape := ⟨2, ![1024, 1]⟩
abbrev S1 : Shape := ⟨1, ![1]⟩

abbrev nBuf : Space → Nat
  | .hbm => 10
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S1x4096, .f32⟩
  | .hbm, ⟨6, _⟩ => ⟨S1x64, .f32⟩
  | .hbm, ⟨7, _⟩ => ⟨S16384x8, .f32⟩
  | .hbm, ⟨8, _⟩ => ⟨S16384x8, .i32⟩
  | .hbm, ⟨9, _⟩ => ⟨S1x1, .f32⟩
  | .local _ .vmem, ⟨0, _⟩ => ⟨S1024x4096, .f32⟩
  | .local _ .vmem, ⟨1, _⟩ => ⟨S1024x4096, .f32⟩
  | .local _ .vmem, ⟨2, _⟩ => ⟨S512x4096, .f32⟩
  | .local _ .vmem, ⟨3, _⟩ => ⟨S512x4096, .f32⟩
  | .local _ .vmem, ⟨4, _⟩ => ⟨S1x512, .f32⟩
  | .local _ .vmem, ⟨5, _⟩ => ⟨S1x512, .f32⟩
  | .local _ .vmem, ⟨6, _⟩ => ⟨S64x512, .f32⟩
  | .local _ .vmem, ⟨7, _⟩ => ⟨S64x512, .f32⟩
  | .local _ .vmem, ⟨8, _⟩ => ⟨S1x64, .f32⟩
  | .local _ .vmem, ⟨9, _⟩ => ⟨S1024x8, .f32⟩
  | .local _ .vmem, ⟨10, _⟩ => ⟨S1024x8, .f32⟩
  | .local _ .vmem, ⟨11, _⟩ => ⟨S1024x8, .i32⟩
  | .local _ .vmem, ⟨12, _⟩ => ⟨S1024x8, .i32⟩
  | .local _ .vmem, ⟨13, _⟩ => ⟨S1x1, .f32⟩
  | .local _ .vmem, ⟨14, _⟩ => ⟨S1024x64, .f32⟩
  | .local _ .vmem, ⟨15, _⟩ => ⟨S8x64, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 8], ![false, false]⟩

def k0_cond3 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def k0_cond5 (i : grid0.Coords) : BitVec 1 :=
  let arg0 : BitVec 32 := BitVec.ofNat 32 (i 0).val
  let c15_i32 : BitVec 32 := 15#32
  let v148 : BitVec 1 := Scalar.cmpi .eq arg0 c15_i32
  let v149 : BitVec 32 := Scalar.extui v148
  let c0_i32_59 : BitVec 32 := 0#32
  let v150 : BitVec 1 := Scalar.cmpi .ne v149 c0_i32_59
  v150

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x8 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S64x4096 : Shape := ⟨2, ![64, 4096]⟩
abbrev S64 : Shape := ⟨1, ![64]⟩
abbrev S1x4096 : Shape := ⟨2, ![1, 4096]⟩
abbrev S_ : Shape := ⟨0, ![]⟩
abbrev S4096x64 : Shape := ⟨2, ![4096, 64]⟩
abbrev S16384x64 : Shape := ⟨2, ![16384, 64]⟩
abbrev S1x64 : Shape := ⟨2, ![1, 64]⟩
abbrev S16384x8 : Shape := ⟨2, ![16384, 8]⟩
abbrev S16384 : Shape := ⟨1, ![16384]⟩
abbrev S16384x1 : Shape := ⟨2, ![16384, 1]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S64x4096, .f32⟩
  | .hbm, ⟨4, _⟩ => ⟨S64, .f32⟩
  | .hbm, ⟨5, _⟩ => ⟨S4096x4096, .f32⟩
  | .hbm, ⟨6, _⟩ => ⟨S16384x4096, .f32⟩
  | .hbm, ⟨7, _⟩ => ⟨S1x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S4096x64, .f32⟩
  | .hbm, ⟨20, _⟩ => ⟨S16384x64, .f32⟩
  | .hbm, ⟨21, _⟩ => ⟨S1x64, .f32⟩
  | .hbm, ⟨22, _⟩ => ⟨S16384x64, .f32⟩
  | .hbm, ⟨23, _⟩ => ⟨S16384x64, .f32⟩
  | .hbm, ⟨24, _⟩ => ⟨S16384x8, .f32⟩
  | .hbm, ⟨25, _⟩ => ⟨S16384x8, .i32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S16384x1, .f32⟩
  | .hbm, ⟨32, _⟩ => ⟨S16384x8, .f32⟩
  | .hbm, ⟨33, _⟩ => ⟨S16384x8, .f32⟩
  | .hbm, ⟨34, _⟩ => ⟨S16384x8, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x8, .f32⟩
  | .hbm, ⟨39, _⟩ => ⟨S16384x8, .f32⟩
  | .hbm, ⟨40, _⟩ => ⟨S_, .f32⟩
  | .hbm, ⟨41, _⟩ => ⟨S16384, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1, .f32⟩
  | .hbm, ⟨46, _⟩ => ⟨S16384x64, .f32⟩
  | .hbm, ⟨47, _⟩ => ⟨S16384x64, .f32⟩
  | .hbm, ⟨48, _⟩ => ⟨S16384x64, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x64, .f32⟩
  | .hbm, ⟨53, _⟩ => ⟨S16384x64, .f32⟩
  | .hbm, ⟨54, _⟩ => ⟨S_, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S_, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S1x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_values : Ref sig .tc := ⟨.hbm, 24, rfl⟩
abbrev main_indices : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_cst_13 : Ref sig .tc := ⟨.hbm, 70, rfl⟩
abbrev main_v49 : Ref sig .tc := ⟨.hbm, 71, rfl⟩
abbrev main_v50 : Ref sig .tc := ⟨.hbm, 72, rfl⟩

abbrev nD : Nat := 1
abbrev τ : Topo := Topo.v7x

variable {F : FTy → Type} [FloatOps F]
-- ==== Proof.IdealBody.lean ====
/-
The router kernel's body at one grid point, as a statement about the contents of its buffers.

The grid has 16 row blocks and, within each, 8 column blocks of the hidden layer. At every point the body forms the
point's partial logits from its blocks. At the first column block it stores them into the logits buffer, at the later
ones it adds them there. At the last column block it also takes the top eight lanes of each row, stores their weights
and positions, and adds the row block's softmax column sums to the first row of a carried buffer (cleared at the first
row block). At the last row block it stores the loss computed from that row.

This file names what each buffer holds after the body (`partialOf`, `addedOf`, `topwOf`, `topiOf`, `rowOf`, `lossOf`),
and proves the body's triple in each of the five combinations of branches that occur.
-/
module

public import proofs.«01_k».proof.Proof.Gen.KernelIdeal.Skeleton
public import proofs.«01_k».proof.Proof.Gen.KernelIdeal.Frame
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! ## What the body stores -/

/-- The point's partial logits, stored at the first column block. -/
abbrev partialOf (x0 : Vec F S1024x4096 .f32) (x1 : Vec F S512x4096 .f32) (x2 : Vec F S1x512 .f32)
    (x3 : Vec F S64x512 .f32) : Vec F S1024x64 .f32 := k0_pay2 x0 x1 x2 x3

/-- The logits so far `l` with the point's partial logits added, stored at the later column blocks. -/
abbrev addedOf (x0 : Vec F S1024x4096 .f32) (x1 : Vec F S512x4096 .f32) (x2 : Vec F S1x512 .f32)
    (x3 : Vec F S64x512 .f32) (l : Vec F S1024x64 .f32) : Vec F S1024x64 .f32 := k0_pay3 x0 x1 x2 x3 l

/-- Each entry's lane number. -/
abbrev lanes : IVec S1024x64 32 := iota .tc S1024x64 32 [1] iota_S1024x64_d1_w32

/-- The literal that a chosen lane is overwritten with. -/
abbrev maskWord : F .f32 := Scalar.ofBits .f32 0xFF800000#32

/-- The eight weights of each row, from the block's logits `l` and the bias row `b`. -/
def topwOf (l : Vec F S1024x64 .f32) (b : Vec F S1x64 .f32) : Vec F S1024x8 .f32 :=
  k0_pay32 (k0_pay6 l b) (k0_pay9 l b) (k0_pay12 l b) (k0_pay16 (k0_pay15 l b))
    (k0_pay19 lanes (k0_pay14 l b) (k0_pay15 l b)) (k0_pay22 lanes (k0_pay14 l b) (k0_pay15 l b))
    (k0_pay24 lanes (k0_pay14 l b) (k0_pay15 l b)) (k0_pay25 lanes (k0_pay14 l b) (k0_pay15 l b))
    (k0_pay27 lanes (k0_pay14 l b) (k0_pay15 l b)) maskWord

/-- The eight positions of each row. -/
def topiOf (l : Vec F S1024x64 .f32) (b : Vec F S1x64 .f32) : Vec F S1024x8 .i32 :=
  k0_pay31 lanes (k0_pay7 l b) (k0_pay10 l b) (k0_pay13 l b) (k0_pay17 lanes (k0_pay14 l b) (k0_pay15 l b))
    (k0_pay20 lanes (k0_pay14 l b) (k0_pay15 l b)) (k0_pay23 lanes (k0_pay14 l b) (k0_pay15 l b))
    (k0_pay24 lanes (k0_pay14 l b) (k0_pay15 l b)) (k0_pay26 lanes (k0_pay14 l b) (k0_pay15 l b))
    (k0_pay27 lanes (k0_pay14 l b) (k0_pay15 l b)) maskWord

/-- The row of column sums `r` with the block's own softmax column sums added. -/
def rowOf (l : Vec F S1024x64 .f32) (b : Vec F S1x64 .f32) (r : Vec F S1x64 .f32) : Vec F S1x64 .f32 :=
  k0_pay34 (k0_pay5 l b) (k0_pay6 l b) (k0_pay9 l b) (k0_pay12 l b) (k0_pay16 (k0_pay15 l b))
    (k0_pay19 lanes (k0_pay14 l b) (k0_pay15 l b)) (k0_pay22 lanes (k0_pay14 l b) (k0_pay15 l b))
    (k0_pay24 lanes (k0_pay14 l b) (k0_pay15 l b)) (k0_pay25 lanes (k0_pay14 l b) (k0_pay15 l b))
    (k0_pay27 lanes (k0_pay14 l b) (k0_pay15 l b)) maskWord r

/-- The loss from the finished row of column sums. -/
abbrev lossOf (r : Vec F S1x64 .f32) : Vec F S1x1 .f32 := k0_pay4 r

/-- The first row of the carried buffer. -/
def firstRow (s : Vec F S8x64 .f32) : Vec F S1x64 .f32 :=
  VecWindow.window s ![0, 0] S1x64.size inb_S8x64_S1x64_0_0

/-- The carried buffer with its first row replaced. -/
def putRow (s : Vec F S8x64 .f32) (r : Vec F S1x64 .f32) : Vec F S8x64 .f32 :=
  VecWindow.put s ![0, 0] S1x64.size r

/-- The row put is the row read back. -/
theorem firstRow_putRow (s : Vec F S8x64 .f32) (r : Vec F S1x64 .f32) : firstRow (putRow s r) = r :=
  VecWindow.window_put_same s ![0, 0] S1x64.size inb_S8x64_S1x64_0_0 r

/-! ## Loads and stores read back -/

/-- A load of a whole buffer that holds `x` reads `x`. -/
theorem load_whole {sp : Space} {s : Shape} {e : EltTy} (a : Memref sig .tc sp s e) (ha : a.IsWhole) (x : Vec F s e)
    {off : Fin s.rank → ℕ} (inb : ∀ k, off k + s.size k ≤ s.size k) :
    a.view.readAt (Elt F) (Rect.unit off s.size inb).toLoadRect (ha.unread x) = x :=
  (View.readAt_full a.view _ inb).trans (ha.read_unread x)

/-- A load of the first row reads the first row of the contents. -/
theorem load_row (a : Memref sig .tc .vmem S8x64 .f32) (f : a.view.ty.Contents (Elt F)) :
    a.view.readAt (Elt F) (Rect.unit (s := S8x64) ![0, 0] S1x64.size inb_S8x64_S1x64_0_0).toLoadRect f
      = firstRow (a.view.read (Elt F) f) :=
  View.readAt_unit a.view f inb_S8x64_S1x64_0_0 rfl inb_S8x64_S1x64_0_0

/-- A load of the first row after a store of the first row reads the row stored. -/
theorem cover_row (a : Memref sig .tc .vmem S8x64 .f32) (w : Vec F S1x64 .f32) (L : List (View.Piece (Elt F) S8x64 .f32)) :
    a.view.readCov (⟨Rect.unit (s := S8x64) ![0, 0] S1x64.size inb_S8x64_S1x64_0_0, w⟩ :: L)
      (Rect.unit (s := S8x64) ![0, 0] S1x64.size inb_S8x64_S1x64_0_0).toLoadRect = w :=
  View.readCov_cons_toLoadRect a.view (Rect.unit (s := S8x64) ![0, 0] S1x64.size inb_S8x64_S1x64_0_0) w L

/-- A load of the first row after a store of the whole buffer reads the first row of what was stored. -/
theorem cover_row_of_whole (a : Memref sig .tc .vmem S8x64 .f32) (w : Vec F S8x64 .f32) (L : List (View.Piece (Elt F) S8x64 .f32)) :
    a.view.readCov (⟨Rect.unit (s := S8x64) ![0, 0] S8x64.size inb_S8x64_S8x64_0_0, w⟩ :: L)
      (Rect.unit (s := S8x64) ![0, 0] S1x64.size inb_S8x64_S1x64_0_0).toLoadRect = firstRow w :=
  (load_row a _).trans (congrArg firstRow (View.read_writes_full (s := S8x64) a.view _ inb_S8x64_S8x64_0_0 w L))

/-! ## The branches -/

/-- First column block. -/
abbrev colFirst (i : grid0.Coords) : Prop :=
  Scalar.cmpi .ne (Scalar.extui (Scalar.cmpi .eq (BitVec.ofNat 32 (i 1).val) 0#32)) 0#32 = 1#1
/-- A later column block. -/
abbrev colLater (i : grid0.Coords) : Prop :=
  Scalar.cmpi .ne (Scalar.extui (Scalar.cmpi .sgt (BitVec.ofNat 32 (i 1).val) 0#32)) 0#32 = 1#1
/-- Last column block. -/
abbrev colLast (i : grid0.Coords) : Prop := k0_cond3 i = 1#1
/-- First row block. -/
abbrev rowFirst (i : grid0.Coords) : Prop :=
  Scalar.cmpi .ne (Scalar.extui (Scalar.cmpi .eq (BitVec.ofNat 32 (i 0).val) 0#32)) 0#32 = 1#1
/-- Last row block. -/
abbrev rowLast (i : grid0.Coords) : Prop := k0_cond5 i = 1#1

section triples

variable (c : Dev nD) (i : grid0.Coords)
  (arg2 : Memref sig .tc .vmem S1024x4096 .f32) (harg2 : arg2.IsWhole) (arg3 : Memref sig .tc .vmem S512x4096 .f32) (harg3 : arg3.IsWhole)
  (arg4 : Memref sig .tc .vmem S1x512 .f32) (harg4 : arg4.IsWhole) (arg5 : Memref sig .tc .vmem S64x512 .f32) (harg5 : arg5.IsWhole)
  (arg6 : Memref sig .tc .vmem S1x64 .f32) (harg6 : arg6.IsWhole) (arg7 : Memref sig .tc .vmem S1024x8 .f32) (harg7 : arg7.IsWhole)
  (arg8 : Memref sig .tc .vmem S1024x8 .i32) (harg8 : arg8.IsWhole) (arg9 : Memref sig .tc .vmem S1x1 .f32) (harg9 : arg9.IsWhole)
  (arg10 : Memref sig .tc .vmem S1024x64 .f32) (harg10 : arg10.IsWhole) (arg11 : Memref sig .tc .vmem S8x64 .f32) (harg11 : arg11.IsWhole)
  (x0 : Vec F S1024x4096 .f32) (x1 : Vec F S512x4096 .f32) (x2 : Vec F S1x512 .f32) (x3 : Vec F S64x512 .f32) (x4 : Vec F S1x64 .f32)

set_option maxHeartbeats 1000000 in
/-- First column block: the partial logits are stored, the other buffers are left as they were. -/
theorem body_first (h0 : colFirst i) (h1 : ¬colLater i) (h2 : ¬colLast i)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg10 fullShare (partialOf x0 x1 x2 x3)) -∗ K ⟨⟩))
      ⊢ wp frame (wpE (defs₀ (F := F)) Variants.none c none) E
        (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%d10, %f10, -, G10⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact h0 | sl_exact h1 | sl_exact h2)
  sl_step
  have load2 := load_whole arg2 harg2 x0 inb_S1024x4096_S1024x4096_0_0
  have load3 := load_whole arg3 harg3 x1 inb_S512x4096_S512x4096_0_0
  have load4 := load_whole arg4 harg4 x2 inb_S1x512_S1x512_0_0
  have load5 := load_whole arg5 harg5 x3 inb_S64x512_S64x512_0_0
  have load6 := load_whole arg6 harg6 x4 inb_S1x64_S1x64_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  rotate_left
  · iexact G10
  · ipureintro
    sl_unfold_run_names
    refine (View.read_writes_full (s := S1024x64) arg10.view _ inb_S1024x64_S1024x64_0_0 _ _).trans ?_
    simp only [load2, load3, load4, load5, load6]

set_option maxHeartbeats 1000000 in
/-- A later column block that is not the last: the partial logits are added. -/
theorem body_later (h0 : ¬colFirst i) (h1 : colLater i) (h2 : ¬colLast i) (l : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ owns (c : Thread nD τ) arg10 fullShare l
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg10 fullShare (addedOf x0 x1 x2 x3 l)) -∗ K ⟨⟩))
      ⊢ wp frame (wpE (defs₀ (F := F)) Variants.none c none) E
        (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  unfold owns
  iintro ⟨⟨%f0, %hf0, H0⟩, ⟨%f1, %hf1, H1⟩, ⟨%f2, %hf2, H2⟩, ⟨%f3, %hf3, H3⟩, ⟨%f4, %hf4, H4⟩, ⟨%f10, %hf10, G10⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf10
  sl_exec (disch := first | sl_exact h0 | sl_exact h1 | sl_exact h2)
  sl_step
  have load2 := load_whole arg2 harg2 x0 inb_S1024x4096_S1024x4096_0_0
  have load3 := load_whole arg3 harg3 x1 inb_S512x4096_S512x4096_0_0
  have load4 := load_whole arg4 harg4 x2 inb_S1x512_S1x512_0_0
  have load5 := load_whole arg5 harg5 x3 inb_S64x512_S64x512_0_0
  have load6 := load_whole arg6 harg6 x4 inb_S1x64_S1x64_0_0
  have load10 := load_whole arg10 harg10 l inb_S1024x64_S1024x64_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  rotate_left
  · iexact G10
  · ipureintro
    sl_unfold_run_names
    refine (View.read_writes_full (s := S1024x64) arg10.view _ inb_S1024x64_S1024x64_0_0 _ _).trans ?_
    simp only [load2, load3, load4, load5, load6, load10]

set_option maxHeartbeats 1000000 in
/-- Last column block of the first row block: the carried buffer is cleared before its row is added to. -/
theorem body_lastFirst (h0 : ¬colFirst i) (h1 : colLater i) (h2 : colLast i) (h3 : rowFirst i) (h4 : ¬rowLast i) (l : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg10 fullShare l ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (topwOf (addedOf x0 x1 x2 x3 l) x4) ∗ owns (c : Thread nD τ) arg8 fullShare (topiOf (addedOf x0 x1 x2 x3 l) x4) ∗ owns (c : Thread nD τ) arg10 fullShare (addedOf x0 x1 x2 x3 l) ∗ owns (c : Thread nD τ) arg11 fullShare (putRow k0_pay33 (rowOf (addedOf x0 x1 x2 x3 l) x4 (firstRow k0_pay33)))) -∗ K ⟨⟩))
      ⊢ wp frame (wpE (defs₀ (F := F)) Variants.none c none) E
        (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, G7⟩, ⟨%d8, %f8, -, G8⟩, ⟨%f10, %hf10, G10⟩, ⟨%d11, %f11, -, G11⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf10
  sl_exec (disch := first | sl_exact h0 | sl_exact h1 | sl_exact h2 | sl_exact h3 | sl_exact h4)
  sl_step
  have load2 := load_whole arg2 harg2 x0 inb_S1024x4096_S1024x4096_0_0
  have load3 := load_whole arg3 harg3 x1 inb_S512x4096_S512x4096_0_0
  have load4 := load_whole arg4 harg4 x2 inb_S1x512_S1x512_0_0
  have load5 := load_whole arg5 harg5 x3 inb_S64x512_S64x512_0_0
  have load6 := load_whole arg6 harg6 x4 inb_S1x64_S1x64_0_0
  have load10 := load_whole arg10 harg10 l inb_S1024x64_S1024x64_0_0
  have cover10 := fun w L => View.readCov_full (s := S1024x64) arg10.view (Val := Elt F) inb_S1024x64_S1024x64_0_0 inb_S1024x64_S1024x64_0_0 w L
  have cover11 := cover_row_of_whole (F := F) arg11
  have full11 := fun f w L => View.read_writes_full (s := S8x64) arg11.view (Val := Elt F) f inb_S8x64_S8x64_0_0 w L
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [G7]
  · iexists _; isplitr
    rotate_left
    · iexact G7
    · ipureintro
      sl_unfold_run_names
      refine (View.read_writes_full (s := S1024x8) arg7.view _ inb_S1024x8_S1024x8_0_0 _ _).trans ?_
      simp only [load2, load3, load4, load5, load6, load10, cover10, cover11, full11]
      rfl
  isplitl [G8]
  · iexists _; isplitr
    rotate_left
    · iexact G8
    · ipureintro
      sl_unfold_run_names
      refine (View.read_writes_full (s := S1024x8) arg8.view _ inb_S1024x8_S1024x8_0_0 _ _).trans ?_
      simp only [load2, load3, load4, load5, load6, load10, cover10, cover11, full11]
      rfl
  isplitl [G10]
  · iexists _; isplitr
    rotate_left
    · iexact G10
    · ipureintro
      sl_unfold_run_names
      refine (View.read_writes_full (s := S1024x64) arg10.view _ inb_S1024x64_S1024x64_0_0 _ _).trans ?_
      simp only [load2, load3, load4, load5, load6, load10, cover10, cover11, full11]
  iexists _; isplitr
  rotate_left
  · iexact G11
  · ipureintro
    sl_unfold_run_names
    rw [View.read_writes_cons_put (s := S8x64) arg11.view _ inb_S8x64_S1x64_0_0 _ _ rfl]
    simp only [load2, load3, load4, load5, load6, load10, cover10, cover11, full11]
    rfl

set_option maxHeartbeats 1000000 in
/-- Last column block of a row block that is neither the first nor the last. -/
theorem body_lastMiddle (h0 : ¬colFirst i) (h1 : colLater i) (h2 : colLast i) (h3 : ¬rowFirst i) (h4 : ¬rowLast i) (l : Vec F S1024x64 .f32) (s : Vec F S8x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ owns (c : Thread nD τ) arg10 fullShare l ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (topwOf (addedOf x0 x1 x2 x3 l) x4) ∗ owns (c : Thread nD τ) arg8 fullShare (topiOf (addedOf x0 x1 x2 x3 l) x4) ∗ owns (c : Thread nD τ) arg10 fullShare (addedOf x0 x1 x2 x3 l) ∗ owns (c : Thread nD τ) arg11 fullShare (putRow s (rowOf (addedOf x0 x1 x2 x3 l) x4 (firstRow s)))) -∗ K ⟨⟩))
      ⊢ wp frame (wpE (defs₀ (F := F)) Variants.none c none) E
        (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, G7⟩, ⟨%d8, %f8, -, G8⟩, ⟨%f10, %hf10, G10⟩, ⟨%f11, %hf11, G11⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf10; obtain rfl := harg11.eq_unread hf11
  sl_exec (disch := first | sl_exact h0 | sl_exact h1 | sl_exact h2 | sl_exact h3 | sl_exact h4)
  sl_step
  have load2 := load_whole arg2 harg2 x0 inb_S1024x4096_S1024x4096_0_0
  have load3 := load_whole arg3 harg3 x1 inb_S512x4096_S512x4096_0_0
  have load4 := load_whole arg4 harg4 x2 inb_S1x512_S1x512_0_0
  have load5 := load_whole arg5 harg5 x3 inb_S64x512_S64x512_0_0
  have load6 := load_whole arg6 harg6 x4 inb_S1x64_S1x64_0_0
  have load10 := load_whole arg10 harg10 l inb_S1024x64_S1024x64_0_0
  have cover10 := fun w L => View.readCov_full (s := S1024x64) arg10.view (Val := Elt F) inb_S1024x64_S1024x64_0_0 inb_S1024x64_S1024x64_0_0 w L
  have row11 := load_row (F := F) arg11
  have coverRow11 := cover_row (F := F) arg11
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [G7]
  · iexists _; isplitr
    rotate_left
    · iexact G7
    · ipureintro
      sl_unfold_run_names
      refine (View.read_writes_full (s := S1024x8) arg7.view _ inb_S1024x8_S1024x8_0_0 _ _).trans ?_
      simp only [load2, load3, load4, load5, load6, load10, cover10, row11, harg11.read_unread, View.writes_nil]
      rfl
  isplitl [G8]
  · iexists _; isplitr
    rotate_left
    · iexact G8
    · ipureintro
      sl_unfold_run_names
      refine (View.read_writes_full (s := S1024x8) arg8.view _ inb_S1024x8_S1024x8_0_0 _ _).trans ?_
      simp only [load2, load3, load4, load5, load6, load10, cover10, row11, harg11.read_unread, View.writes_nil]
      rfl
  isplitl [G10]
  · iexists _; isplitr
    rotate_left
    · iexact G10
    · ipureintro
      sl_unfold_run_names
      refine (View.read_writes_full (s := S1024x64) arg10.view _ inb_S1024x64_S1024x64_0_0 _ _).trans ?_
      simp only [load2, load3, load4, load5, load6, load10, cover10, row11, harg11.read_unread, View.writes_nil]
  iexists _; isplitr
  rotate_left
  · iexact G11
  · ipureintro
    sl_unfold_run_names
    rw [View.read_writes_cons_put (s := S8x64) arg11.view _ inb_S8x64_S1x64_0_0 _ _ rfl]
    simp only [load2, load3, load4, load5, load6, load10, cover10, row11, harg11.read_unread, View.writes_nil]
    rfl

set_option maxHeartbeats 1000000 in
/-- Last column block of the last row block: the loss is stored as well. -/
theorem body_lastLast (h0 : ¬colFirst i) (h1 : colLater i) (h2 : colLast i) (h3 : ¬rowFirst i) (h4 : rowLast i) (l : Vec F S1024x64 .f32) (s : Vec F S8x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d) ∗ owns (c : Thread nD τ) arg10 fullShare l ∗ owns (c : Thread nD τ) arg11 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (topwOf (addedOf x0 x1 x2 x3 l) x4) ∗ owns (c : Thread nD τ) arg8 fullShare (topiOf (addedOf x0 x1 x2 x3 l) x4) ∗ owns (c : Thread nD τ) arg9 fullShare (lossOf (rowOf (addedOf x0 x1 x2 x3 l) x4 (firstRow s))) ∗ owns (c : Thread nD τ) arg10 fullShare (addedOf x0 x1 x2 x3 l) ∗ owns (c : Thread nD τ) arg11 fullShare (putRow s (rowOf (addedOf x0 x1 x2 x3 l) x4 (firstRow s)))) -∗ K ⟨⟩))
      ⊢ wp frame (wpE (defs₀ (F := F)) Variants.none c none) E
        (cc0__router_kernel i arg2 harg2 arg3 harg3 arg4 harg4 arg5 harg5 arg6 harg6 arg7 harg7 arg8 harg8 arg9 harg9 arg10 harg10 arg11 harg11) K := by
  simp only [cc0__router_kernel_eq_skeleton]; unfold cc0__router_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d7, %f7, -, G7⟩, ⟨%d8, %f8, -, G8⟩, ⟨%d9, %f9, -, G9⟩, ⟨%f10, %hf10, G10⟩, ⟨%f11, %hf11, G11⟩, Hk⟩
  obtain rfl := harg2.eq_unread hf0; obtain rfl := harg3.eq_unread hf1; obtain rfl := harg4.eq_unread hf2; obtain rfl := harg5.eq_unread hf3; obtain rfl := harg6.eq_unread hf4; obtain rfl := harg10.eq_unread hf10; obtain rfl := harg11.eq_unread hf11
  sl_exec (disch := first | sl_exact h0 | sl_exact h1 | sl_exact h2 | sl_exact h3 | sl_exact h4)
  sl_step
  have load2 := load_whole arg2 harg2 x0 inb_S1024x4096_S1024x4096_0_0
  have load3 := load_whole arg3 harg3 x1 inb_S512x4096_S512x4096_0_0
  have load4 := load_whole arg4 harg4 x2 inb_S1x512_S1x512_0_0
  have load5 := load_whole arg5 harg5 x3 inb_S64x512_S64x512_0_0
  have load6 := load_whole arg6 harg6 x4 inb_S1x64_S1x64_0_0
  have load10 := load_whole arg10 harg10 l inb_S1024x64_S1024x64_0_0
  have cover10 := fun w L => View.readCov_full (s := S1024x64) arg10.view (Val := Elt F) inb_S1024x64_S1024x64_0_0 inb_S1024x64_S1024x64_0_0 w L
  have row11 := load_row (F := F) arg11
  have coverRow11 := cover_row (F := F) arg11
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [G7]
  · iexists _; isplitr
    rotate_left
    · iexact G7
    · ipureintro
      sl_unfold_run_names
      refine (View.read_writes_full (s := S1024x8) arg7.view _ inb_S1024x8_S1024x8_0_0 _ _).trans ?_
      simp only [load2, load3, load4, load5, load6, load10, cover10, row11, harg11.read_unread, View.writes_nil]
      rfl
  isplitl [G8]
  · iexists _; isplitr
    rotate_left
    · iexact G8
    · ipureintro
      sl_unfold_run_names
      refine (View.read_writes_full (s := S1024x8) arg8.view _ inb_S1024x8_S1024x8_0_0 _ _).trans ?_
      simp only [load2, load3, load4, load5, load6, load10, cover10, row11, harg11.read_unread, View.writes_nil]
      rfl
  isplitl [G9]
  · iexists _; isplitr
    rotate_left
    · iexact G9
    · ipureintro
      sl_unfold_run_names
      refine (View.read_writes_full (s := S1x1) arg9.view _ inb_S1x1_S1x1_0_0 _ _).trans ?_
      simp only [load2, load3, load4, load5, load6, load10, cover10, row11, harg11.read_unread, View.writes_nil, coverRow11]
      rfl
  isplitl [G10]
  · iexists _; isplitr
    rotate_left
    · iexact G10
    · ipureintro
      sl_unfold_run_names
      refine (View.read_writes_full (s := S1024x64) arg10.view _ inb_S1024x64_S1024x64_0_0 _ _).trans ?_
      simp only [load2, load3, load4, load5, load6, load10, cover10, row11, harg11.read_unread, View.writes_nil]
  iexists _; isplitr
  rotate_left
  · iexact G11
  · ipureintro
    sl_unfold_run_names
    rw [View.read_writes_cons_put (s := S8x64) arg11.view _ inb_S8x64_S1x64_0_0 _ _ rfl]
    simp only [load2, load3, load4, load5, load6, load10, cover10, row11, harg11.read_unread, View.writes_nil]
    rfl

end triples

end Cert.KernelIdeal.Body

end
-- ==== Proof.IdealRun.lean ====
/-
The router kernel's launch: what its pipeline carries from point to point, and the run that follows from it.

Between points the kernel carries two buffers. The logits buffer holds the logits accumulated over the column blocks
seen so far of the current row block (`logits`). The sums buffer holds, in its first row, the softmax column sums of
the row blocks finished so far (`sums`); before the first row block is finished it may hold anything.
-/
module

public import proofs.«01_k».proof.Proof.IdealBody
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Tactic
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem points : cfg0.N = 128 := N_0

theorem point_lt (t : Fin cfg0.N) : t.val < 128 := Nat.lt_of_lt_of_eq t.isLt points

/-- The last point of row block `k`. -/
def lastPoint (k : ℕ) (hk : k < 16) : Fin cfg0.N := ⟨8 * k + 7, by rw [points]; omega⟩

theorem colFirst_iff : ∀ t : Fin cfg0.N, colFirst (grid0.coords t) ↔ t.val % 8 = 0 :=
  (by decide +kernel : ∀ t : Fin grid0.N, colFirst (grid0.coords t) ↔ t.val % 8 = 0)
theorem colLater_iff : ∀ t : Fin cfg0.N, colLater (grid0.coords t) ↔ ¬ t.val % 8 = 0 :=
  (by decide +kernel : ∀ t : Fin grid0.N, colLater (grid0.coords t) ↔ ¬ t.val % 8 = 0)
theorem colLast_iff : ∀ t : Fin cfg0.N, colLast (grid0.coords t) ↔ t.val % 8 = 7 :=
  (by decide +kernel : ∀ t : Fin grid0.N, colLast (grid0.coords t) ↔ t.val % 8 = 7)
theorem rowFirst_iff : ∀ t : Fin cfg0.N, rowFirst (grid0.coords t) ↔ t.val < 8 :=
  (by decide +kernel : ∀ t : Fin grid0.N, rowFirst (grid0.coords t) ↔ t.val < 8)
theorem rowLast_iff : ∀ t : Fin cfg0.N, rowLast (grid0.coords t) ↔ 120 ≤ t.val :=
  (by decide +kernel : ∀ t : Fin grid0.N, rowLast (grid0.coords t) ↔ 120 ≤ t.val)

/-- The weights' window is written to at the last column blocks only. -/
theorem idle5_iff : ∀ t : Fin cfg0.N, cfg0.idle 5 (grid0.coords t) = true ↔ ¬ t.val % 8 = 7 := by decide +kernel
/-- The positions' window is written to at the last column blocks only. -/
theorem idle6_iff : ∀ t : Fin cfg0.N, cfg0.idle 6 (grid0.coords t) = true ↔ ¬ t.val % 8 = 7 := by decide +kernel
/-- The loss's window is written to at the last point only. -/
theorem idle7_iff : ∀ t : Fin cfg0.N, cfg0.idle 7 (grid0.coords t) = true ↔ ¬ t.val = 127 := by decide +kernel

/-! ## What the carried buffers hold -/

/-- The point's partial logits. -/
def partialAt (c : Dev nD) (t : Fin cfg0.N) : Vec F S1024x64 .f32 :=
  partialOf (iblk m c 0 t) (iblk m c 1 t) (iblk m c 2 t) (iblk m c 3 t)

/-- The logits buffer after point `n`. -/
def logits (c : Dev nD) : (n : ℕ) → n < cfg0.N → Vec F S1024x64 .f32
  | 0, h => partialAt m c ⟨0, h⟩
  | n + 1, h =>
    if (n + 1) % 8 = 0 then partialAt m c ⟨n + 1, h⟩
    else addedOf (iblk m c 0 ⟨n + 1, h⟩) (iblk m c 1 ⟨n + 1, h⟩) (iblk m c 2 ⟨n + 1, h⟩) (iblk m c 3 ⟨n + 1, h⟩)
      (logits c n (Nat.lt_of_succ_lt h))

/-- At a first column block the buffer holds the point's partial logits. -/
theorem logits_first (c : Dev nD) (n : ℕ) (h : n < cfg0.N) (hn : n % 8 = 0) :
    logits m c n h = partialAt m c ⟨n, h⟩ := by
  cases n with
  | zero => rfl
  | succ n => exact if_pos hn

/-- At a later column block the point's partial logits are added to what the point before left. -/
theorem logits_later (c : Dev nD) (n : ℕ) (h : n + 1 < cfg0.N) (hn : ¬ (n + 1) % 8 = 0) :
    logits m c (n + 1) h
      = addedOf (iblk m c 0 ⟨n + 1, h⟩) (iblk m c 1 ⟨n + 1, h⟩) (iblk m c 2 ⟨n + 1, h⟩) (iblk m c 3 ⟨n + 1, h⟩)
        (logits m c n (Nat.lt_of_succ_lt h)) := if_neg hn

/-- The finished logits of row block `k`, before the bias. -/
def blockLogits (c : Dev nD) (k : ℕ) (hk : k < 16) : Vec F S1024x64 .f32 :=
  logits m c (lastPoint k hk).val (lastPoint k hk).isLt

/-- The bias row at row block `k`. -/
def biasRow (c : Dev nD) (k : ℕ) (hk : k < 16) : Vec F S1x64 .f32 := iblk m c 4 (lastPoint k hk)

/-- The sums buffer after row block `k`. -/
def sums (c : Dev nD) : (k : ℕ) → k < 16 → Vec F S8x64 .f32
  | 0, h => putRow k0_pay33 (rowOf (blockLogits m c 0 h) (biasRow m c 0 h) (firstRow k0_pay33))
  | k + 1, h => putRow (sums c k (Nat.lt_of_succ_lt h))
      (rowOf (blockLogits m c (k + 1) h) (biasRow m c (k + 1) h) (firstRow (sums c k (Nat.lt_of_succ_lt h))))

/-- What is known of the logits buffer before point `n`. -/
def LogitsOk (c : Dev nD) (n : ℕ) (l : Vec F S1024x64 .f32) : Prop :=
  ∀ k (hk : k < cfg0.N), n = k + 1 → l = logits m c k hk

/-- What is known of the sums buffer before point `n`. -/
def SumsOk (c : Dev nD) (n : ℕ) (s : Vec F S8x64 .f32) : Prop :=
  ∀ k (hk : k < 16), n / 8 = k + 1 → s = sums m c k hk

theorem logitsOk_first (c : Dev nD) (t : Fin cfg0.N) (h : t.val % 8 = 0) :
    LogitsOk m c (t.val + 1) (partialOf (iblk m c 0 t) (iblk m c 1 t) (iblk m c 2 t) (iblk m c 3 t)) := by
  intro k hk e
  obtain rfl : k = t.val := by omega
  exact (logits_first m c t.val t.isLt h).symm

/-- Added to, what the point before left is what this point leaves. -/
theorem added_eq (c : Dev nD) (t : Fin cfg0.N) (h : ¬ t.val % 8 = 0) (l : Vec F S1024x64 .f32) (hl : LogitsOk m c t.val l) :
    addedOf (iblk m c 0 t) (iblk m c 1 t) (iblk m c 2 t) (iblk m c 3 t) l = logits m c t.val t.isLt := by
  obtain ⟨n, hn⟩ := t
  cases n with
  | zero => exact absurd rfl h
  | succ n => rw [hl n (Nat.lt_of_succ_lt hn) rfl]; exact (logits_later m c n hn h).symm

theorem logitsOk_at (c : Dev nD) (t : Fin cfg0.N) : LogitsOk m c (t.val + 1) (logits m c t.val t.isLt) := by
  intro k hk e
  obtain rfl : k = t.val := by omega
  rfl

theorem sumsOk_same (c : Dev nD) (t : Fin cfg0.N) (h : ¬ t.val % 8 = 7) (s : Vec F S8x64 .f32) (hs : SumsOk m c t.val s) :
    SumsOk m c (t.val + 1) s := fun k hk e => hs k hk (by omega)

/-- The finished logits at a last point, by the point's row block. -/
theorem blockLogits_at (c : Dev nD) (t : Fin cfg0.N) (h : t.val % 8 = 7) (k : ℕ) (hk : k < 16) (e : t.val / 8 = k) :
    blockLogits m c k hk = logits m c t.val t.isLt ∧ biasRow m c k hk = iblk m c 4 t := by
  obtain rfl : t = lastPoint k hk := Fin.ext (by show t.val = 8 * k + 7; omega)
  exact ⟨rfl, rfl⟩

theorem sums_first (c : Dev nD) (t : Fin cfg0.N) (h : t.val % 8 = 7) (ht : t.val < 8) :
    SumsOk m c (t.val + 1)
      (putRow k0_pay33 (rowOf (logits m c t.val t.isLt) (iblk m c 4 t) (firstRow k0_pay33))) := by
  intro k hk e
  obtain rfl : k = 0 := by omega
  obtain ⟨e1, e2⟩ := blockLogits_at m c t h 0 hk (by omega)
  rw [← e1, ← e2]; rfl

theorem sums_later (c : Dev nD) (t : Fin cfg0.N) (h : t.val % 8 = 7) (ht : ¬ t.val < 8) (s : Vec F S8x64 .f32)
    (hs : SumsOk m c t.val s) (k : ℕ) (hk : k < 16) (e : t.val / 8 = k) :
    putRow s (rowOf (logits m c t.val t.isLt) (iblk m c 4 t) (firstRow s)) = sums m c k hk := by
  cases k with
  | zero => omega
  | succ k =>
    obtain ⟨e1, e2⟩ := blockLogits_at m c t h (k + 1) hk e
    rw [← e1, ← e2, hs k (by omega) e]; rfl

theorem sumsOk_later (c : Dev nD) (t : Fin cfg0.N) (h : t.val % 8 = 7) (ht : ¬ t.val < 8) (s : Vec F S8x64 .f32)
    (hs : SumsOk m c t.val s) :
    SumsOk m c (t.val + 1) (putRow s (rowOf (logits m c t.val t.isLt) (iblk m c 4 t) (firstRow s))) :=
  fun k hk e => sums_later m c t h ht s hs k hk (by omega)

/-! ## The pipeline's proof data -/

abbrev logitsBuf : Memref sig .tc .vmem S1024x64 .f32 := Memref.whole cc0_scratch0
abbrev sumsBuf : Memref sig .tc .vmem S8x64 .f32 := Memref.whole cc0_scratch1

/-- What the core holds before point `n`, besides the windows' buffers. -/
def carried (c : Dev nD) (n : ℕ) : sProp 𝕄 :=
  iprop((∃ l, ⌜LogitsOk m c n l⌝ ∗ owns (c : Thread nD τ) logitsBuf fullShare l)
    ∗ (∃ s, ⌜SumsOk m c n s⌝ ∗ owns (c : Thread nD τ) sumsBuf fullShare s) ∗ (∃ r, prngReg c r))

/-- The loss's window's contents once it is stored. -/
def lossAt (c : Dev nD) : Vec F S1x1 .f32 := lossOf (firstRow (sums m c 15 (by decide)))

/-- The loss stored at the last point is that of the finished sums. -/
theorem lossAt_eq (c : Dev nD) (t : Fin cfg0.N) (h : t.val % 8 = 7) (ht : 120 ≤ t.val) (s : Vec F S8x64 .f32)
    (hs : SumsOk m c t.val s) :
    lossAt m c = lossOf (rowOf (logits m c t.val t.isLt) (iblk m c 4 t) (firstRow s)) := by
  have hlt := point_lt t
  rw [lossAt, ← sums_later m c t h (by omega) s hs 15 (by decide) (by omega), firstRow_putRow]

/-- The arrays as the launch finds them; each input's buffer at its block; each output's buffer, at the points that
    store into it, at what is stored. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => topwOf (logits m c t.val t.isLt) (iblk m c 4 t)
    | ⟨6, _⟩ => topiOf (logits m c t.val t.isLt) (iblk m c 4 t)
    | ⟨7, _⟩ => lossAt m c
  Φ t := carried m c t.val
  q _ := fullShare
  owed _ := 0

theorem data_A (c : Dev nD) (w : Fin cfg0.W) : (data m 0 c).A w = V m c (Pipeline.arrRef spec0 w) := by
  dsimp only [data]
theorem after_0 (c : Dev nD) (t : Fin cfg0.N) : (data m 0 c).after 0 t = iblk m c 0 t := by dsimp only [data]
theorem after_1 (c : Dev nD) (t : Fin cfg0.N) : (data m 0 c).after 1 t = iblk m c 1 t := by dsimp only [data]
theorem after_2 (c : Dev nD) (t : Fin cfg0.N) : (data m 0 c).after 2 t = iblk m c 2 t := by dsimp only [data]
theorem after_3 (c : Dev nD) (t : Fin cfg0.N) : (data m 0 c).after 3 t = iblk m c 3 t := by dsimp only [data]
theorem after_4 (c : Dev nD) (t : Fin cfg0.N) : (data m 0 c).after 4 t = iblk m c 4 t := by dsimp only [data]
theorem after_5 (c : Dev nD) (t : Fin cfg0.N) :
    (data m 0 c).after 5 t = topwOf (logits m c t.val t.isLt) (iblk m c 4 t) := by dsimp only [data]
theorem after_6 (c : Dev nD) (t : Fin cfg0.N) :
    (data m 0 c).after 6 t = topiOf (logits m c t.val t.isLt) (iblk m c 4 t) := by dsimp only [data]
theorem after_7 (c : Dev nD) (t : Fin cfg0.N) : (data m 0 c).after 7 t = lossAt m c := by dsimp only [data]
theorem before_0 (c : Dev nD) (t : Fin cfg0.N) (d) : (data m 0 c).before 0 t d = iblk m c 0 t :=
  before0_0_of m (data m 0 c) (data_A m c 0) (after_0 m c) t d
theorem before_1 (c : Dev nD) (t : Fin cfg0.N) (d) : (data m 0 c).before 1 t d = iblk m c 1 t :=
  before0_1_of m (data m 0 c) (data_A m c 1) (after_1 m c) t d
theorem before_2 (c : Dev nD) (t : Fin cfg0.N) (d) : (data m 0 c).before 2 t d = iblk m c 2 t :=
  before0_2_of m (data m 0 c) (data_A m c 2) (after_2 m c) t d
theorem before_3 (c : Dev nD) (t : Fin cfg0.N) (d) : (data m 0 c).before 3 t d = iblk m c 3 t :=
  before0_3_of m (data m 0 c) (data_A m c 3) (after_3 m c) t d
theorem before_4 (c : Dev nD) (t : Fin cfg0.N) (d) : (data m 0 c).before 4 t d = iblk m c 4 t :=
  before0_4_of m (data m 0 c) (data_A m c 4) (after_4 m c) t d

theorem carried_zero (c : Dev nD) : (Pipeline.ΦA spec0 c : sProp 𝕄)
    = iprop(iprop((∃ d, owns (c : Thread nD τ) logitsBuf fullShare d) ∗ (∃ d, owns (c : Thread nD τ) sumsBuf fullShare d))
      ∗ (∃ r, prngReg c r)) := by
  unfold Pipeline.ΦA; rw [scopedRest0_eq]; simp only [owns_whole]; try rfl

/-! ## The body at a point -/

/-- What the body starts from at point `t`. -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d))
    ∗ (∃ d, owns (c : Thread nD τ) (st0_5 t) fullShare ((data m 0 c).before 5 t d))
    ∗ (∃ d, owns (c : Thread nD τ) (st0_6 t) fullShare ((data m 0 c).before 6 t d))
    ∗ (∃ d, owns (c : Thread nD τ) (st0_7 t) fullShare ((data m 0 c).before 7 t d)))

/-- What the body leaves at point `t`. -/
def bodyPost (c : Dev nD) (t : Fin cfg0.N) : sProp 𝕄 :=
  iprop((data m 0 c).Φ t.succ ∗ (data m 0 c).owesAt () t.succ
    ∗ (data m 0 c).leavesExact 0 t
    ∗ (data m 0 c).leavesExact 1 t
    ∗ (data m 0 c).leavesExact 2 t
    ∗ (data m 0 c).leavesExact 3 t
    ∗ (data m 0 c).leavesExact 4 t
    ∗ (data m 0 c).leavesExact 5 t
    ∗ (data m 0 c).leavesExact 6 t
    ∗ (data m 0 c).leavesExact 7 t)

theorem leaves_live (c : Dev nD) (w : Fin cfg0.W) (t : Fin cfg0.N) (h : cfg0.idle w (grid0.coords t) = false) :
    (data m 0 c).leavesExact w t = owns (c : Thread nD τ) ((cfg0.win w).stage (cfg0.slots t w)) fullShare ((data m 0 c).after w t) := by
  unfold Dat.leavesExact; rw [h]

theorem leaves_idle5 (c : Dev nD) (t : Fin cfg0.N) (h : ¬ t.val % 8 = 7) :
    (data m 0 c).leavesExact 5 t
      = iprop(∃ d, owns (c : Thread nD τ) ((cfg0.win 5).stage (cfg0.slots t 5)) fullShare ((data m 0 c).before 5 t d)) :=
  Dat.leavesExact_idle (data m 0 c) 5 t ((idle5_iff t).mpr h) (Bool.eq_false_iff.mpr fun e => h ((flush0_5 t).mp e))
theorem leaves_idle6 (c : Dev nD) (t : Fin cfg0.N) (h : ¬ t.val % 8 = 7) :
    (data m 0 c).leavesExact 6 t
      = iprop(∃ d, owns (c : Thread nD τ) ((cfg0.win 6).stage (cfg0.slots t 6)) fullShare ((data m 0 c).before 6 t d)) :=
  Dat.leavesExact_idle (data m 0 c) 6 t ((idle6_iff t).mpr h) (Bool.eq_false_iff.mpr fun e => h ((flush0_6 t).mp e))
theorem leaves_idle7 (c : Dev nD) (t : Fin cfg0.N) (h : ¬ t.val = 127) :
    (data m 0 c).leavesExact 7 t
      = iprop(∃ d, owns (c : Thread nD τ) ((cfg0.win 7).stage (cfg0.slots t 7)) fullShare ((data m 0 c).before 7 t d)) :=
  Dat.leavesExact_idle (data m 0 c) 7 t ((idle7_iff t).mpr h)
    (Bool.eq_false_iff.mpr fun e => h (by have := (flush0_7 t).mp e; have := point_lt t; omega))
theorem leaves_live5 (c : Dev nD) (t : Fin cfg0.N) (h : t.val % 8 = 7) :
    (data m 0 c).leavesExact 5 t
      = owns (c : Thread nD τ) ((cfg0.win 5).stage (cfg0.slots t 5)) fullShare ((data m 0 c).after 5 t) :=
  leaves_live m c 5 t (Bool.eq_false_iff.mpr fun e => (idle5_iff t).mp e h)
theorem leaves_live6 (c : Dev nD) (t : Fin cfg0.N) (h : t.val % 8 = 7) :
    (data m 0 c).leavesExact 6 t
      = owns (c : Thread nD τ) ((cfg0.win 6).stage (cfg0.slots t 6)) fullShare ((data m 0 c).after 6 t) :=
  leaves_live m c 6 t (Bool.eq_false_iff.mpr fun e => (idle6_iff t).mp e h)
theorem leaves_live7 (c : Dev nD) (t : Fin cfg0.N) (h : t.val = 127) :
    (data m 0 c).leavesExact 7 t
      = owns (c : Thread nD τ) ((cfg0.win 7).stage (cfg0.slots t 7)) fullShare ((data m 0 c).after 7 t) :=
  leaves_live m c 7 t (Bool.eq_false_iff.mpr fun e => (idle7_iff t).mp e h)

set_option maxHeartbeats 4000000 in
/-- The body at any point: the point's position says which branches it takes, and the branches' triple applies. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (data m 0 c).owesAt () t.succ = (data m 0 c).owesAt () t.castSucc from rfl,
    show (data m 0 c).Φ t.succ = carried m c (t.val + 1) from rfl,
    show (data m 0 c).Φ t.castSucc = carried m c t.val from rfl,
    leaves_live m c 0 t rfl, leaves_live m c 1 t rfl, leaves_live m c 2 t rfl, leaves_live m c 3 t rfl, leaves_live m c 4 t rfl,
    after_0, after_1, after_2, after_3, after_4]
  unfold carried
  have ht := point_lt t
  by_cases h7 : t.val % 8 = 7
  · have h0 : ¬ t.val % 8 = 0 := by omega
    by_cases hf : t.val < 8
    · rw [leaves_live5 m c t h7, leaves_live6 m c t h7, after_5, after_6, leaves_idle7 m c t (by omega)]
      iintro ⟨⟨⟨%l, %hl, Hl⟩, ⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_lastFirst c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) (iblk m c 0 t) (iblk m c 1 t) (iblk m c 2 t) (iblk m c 3 t) (iblk m c 4 t)
        (fun h => h0 ((colFirst_iff t).mp h)) ((colLater_iff t).mpr h0) ((colLast_iff t).mpr h7) ((rowFirst_iff t).mpr hf) (fun h => absurd ((rowLast_iff t).mp h) (by omega)) l Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [Hl]; · iexact Hl
      isplitl [Hs]; · iexists _; iexact Hs
      iintro ⟨H0, H1, H2, H3, H4, H5, H6, Hl, Hs⟩
      rw [added_eq m c t h0 l hl]
      isplitl [Hl Hs Hg]
      · isplitl [Hl]
        · iexists _; isplitr
          · ipureintro; exact logitsOk_at m c t
          iexact Hl
        isplitl [Hs]
        · iexists _; isplitr
          · ipureintro; exact sums_first m c t h7 hf
          iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · by_cases hm : 120 ≤ t.val
      · rw [leaves_live5 m c t h7, leaves_live6 m c t h7, after_5, after_6, leaves_live7 m c t (by omega), after_7]
        iintro ⟨⟨⟨%l, %hl, Hl⟩, ⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_lastLast c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) (iblk m c 0 t) (iblk m c 1 t) (iblk m c 2 t) (iblk m c 3 t) (iblk m c 4 t)
          (fun h => h0 ((colFirst_iff t).mp h)) ((colLater_iff t).mpr h0) ((colLast_iff t).mpr h7) (fun h => hf ((rowFirst_iff t).mp h)) ((rowLast_iff t).mpr hm) l s Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [Hl]; · iexact Hl
        isplitl [Hs]; · iexact Hs
        iintro ⟨H0, H1, H2, H3, H4, H5, H6, H7, Hl, Hs⟩
        rw [added_eq m c t h0 l hl, ← lossAt_eq m c t h7 hm s hs]
        isplitl [Hl Hs Hg]
        · isplitl [Hl]
          · iexists _; isplitr
            · ipureintro; exact logitsOk_at m c t
            iexact Hl
          isplitl [Hs]
          · iexists _; isplitr
            · ipureintro; exact sumsOk_later m c t h7 hf s hs
            iexact Hs
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · rw [leaves_live5 m c t h7, leaves_live6 m c t h7, after_5, after_6, leaves_idle7 m c t (by omega)]
        iintro ⟨⟨⟨%l, %hl, Hl⟩, ⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply (body_lastMiddle c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) (iblk m c 0 t) (iblk m c 1 t) (iblk m c 2 t) (iblk m c 3 t) (iblk m c 4 t)
          (fun h => h0 ((colFirst_iff t).mp h)) ((colLater_iff t).mpr h0) ((colLast_iff t).mpr h7) (fun h => hf ((rowFirst_iff t).mp h)) (fun h => hm ((rowLast_iff t).mp h)) l s Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [Hl]; · iexact Hl
        isplitl [Hs]; · iexact Hs
        iintro ⟨H0, H1, H2, H3, H4, H5, H6, Hl, Hs⟩
        rw [added_eq m c t h0 l hl]
        isplitl [Hl Hs Hg]
        · isplitl [Hl]
          · iexists _; isplitr
            · ipureintro; exact logitsOk_at m c t
            iexact Hl
          isplitl [Hs]
          · iexists _; isplitr
            · ipureintro; exact sumsOk_later m c t h7 hf s hs
            iexact Hs
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
  · by_cases h0 : t.val % 8 = 0
    · rw [leaves_idle5 m c t h7, leaves_idle6 m c t h7, leaves_idle7 m c t (by omega)]
      iintro ⟨⟨⟨%l, %hl, Hl⟩, ⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_first c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) (iblk m c 0 t) (iblk m c 1 t) (iblk m c 2 t) (iblk m c 3 t) (iblk m c 4 t)
        ((colFirst_iff t).mpr h0) (fun h => (colLater_iff t).mp h h0) (fun h => h7 ((colLast_iff t).mp h)) Set.univ _)
      isplitl [H0]; · iexact H0
      isplitl [H1]; · iexact H1
      isplitl [H2]; · iexact H2
      isplitl [H3]; · iexact H3
      isplitl [H4]; · iexact H4
      isplitl [Hl]; · iexists _; iexact Hl
      iintro ⟨H0, H1, H2, H3, H4, Hl⟩
      isplitl [Hl Hs Hg]
      · isplitl [Hl]
        · iexists _; isplitr
          · ipureintro; exact logitsOk_first m c t h0
          iexact Hl
        isplitl [Hs]
        · iexists _; isplitr
          · ipureintro; exact sumsOk_same m c t h7 s hs
          iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7
    · rw [leaves_idle5 m c t h7, leaves_idle6 m c t h7, leaves_idle7 m c t (by omega)]
      iintro ⟨⟨⟨%l, %hl, Hl⟩, ⟨%s, %hs, Hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_later c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (Memref.isWhole_whole _) _ (Memref.isWhole_whole _) (iblk m c 0 t) (iblk m c 1 t) (iblk m c 2 t) (iblk m c 3 t) (iblk m c 4 t)
        (fun h => h0 ((colFirst_iff t).mp h)) ((colLater_iff t).mpr h0) (fun h => h7 ((colLast_iff t).mp h)) l Set.univ _)
      isplitl [H0]; · iexact H0
      isplitl [H1]; · iexact H1
      isplitl [H2]; · iexact H2
      isplitl [H3]; · iexact H3
      isplitl [H4]; · iexact H4
      isplitl [Hl]; · iexact Hl
      iintro ⟨H0, H1, H2, H3, H4, Hl⟩
      rw [added_eq m c t h0 l hl]
      isplitl [Hl Hs Hg]
      · isplitl [Hl]
        · iexists _; isplitr
          · ipureintro; exact logitsOk_at m c t
          iexact Hl
        isplitl [Hs]
        · iexists _; isplitr
          · ipureintro; exact sumsOk_same m c t h7 s hs
          iexact Hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      iexists _; iexact H7

/-- The body table's row at a point is the body. -/
theorem row_at (t : Fin cfg0.N) :
    defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row_at]
  exact triple_restated (body_at m c t) rfl .rfl fun _ => .rfl

/-- Nothing is known of the carried buffers at the start. -/
theorem carried_in (c : Dev nD) : Pipeline.ΦA spec0 c ⊢ (data m 0 c).Φ 0 := by
  rw [show (data m 0 c).Φ 0 = carried m c 0 from rfl, carried_zero]
  unfold carried
  iintro ⟨⟨⟨%l, Hl⟩, ⟨%s, Hs⟩⟩, Hg⟩
  isplitl [Hl]
  · iexists l; isplitr
    · ipureintro; intro k hk e; omega
    iexact Hl
  isplitl [Hs]
  · iexists s; isplitr
    · ipureintro; intro k hk e; omega
    iexact Hs
  iexact Hg

/-- At the end what is known of them is forgotten. -/
theorem carried_out (c : Dev nD) : (data m 0 c).Φ (Fin.last cfg0.N) ⊢ Pipeline.ΦA spec0 c := by
  rw [show (data m 0 c).Φ (Fin.last cfg0.N) = carried m c cfg0.N from rfl, carried_zero]
  unfold carried
  iintro ⟨⟨%l, -, Hl⟩, ⟨%s, -, Hs⟩, Hg⟩
  isplitl [Hl Hs]
  · isplitl [Hl]
    · iexists l; iexact Hl
    iexists s; iexact Hs
  iexact Hg

/-! ## The run -/

-- the launch theorem's implicit arguments are found by unifying its conclusion with this one
set_option backward.isDefEq.respectTransparency.types false in
/-- Every execution of the program ends, with every array of the pipeline at what the proof data say and every counter at zero. -/
theorem run_quiescent : θ_run defs (onTc (τ := τ) (main (F := F))) (s₀ m ρ)
    (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := carried_in m) (hout := carried_out m)

/-- The arrays' part of it. -/
theorem run : θ_run defs (onTc (τ := τ) (main (F := F))) (s₀ m ρ) (Pipeline.FramePost cfgs (data m) 0 (V m)) :=
  (θ_run defs _ _).mono (fun _ h => h.1) (run_quiescent m ρ)

/-- The frame: the arguments end unchanged, and every counter ends at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (data m) (data_A m) (run m ρ)) ((θ_run defs _ _).mono (fun _ h => h.2) (run_quiescent m ρ))

end Cert.KernelIdeal.Body

end
-- ==== Proof.Pick.lean ====
/-
Taking the greatest entry of a row again and again, and sorting the row once, give the same leading positions.

A row is a function `x : Fin n → EReal`. One round takes the first position that holds the row's greatest entry and
then overwrites that entry with `⊥`. If no entry of the row is `⊥`, the first `k ≤ n` positions so taken are the first
`k` positions of the stable sort of the row in descending order.
-/
module

public import Idealize.ShloMosaic.Lib.SortPrefix
public import Mathlib.Data.EReal.Basic

@[expose] public section

noncomputable section

namespace Cert.Router

open Idealize.ShloMosaic

variable {n : ℕ}

/-- The greatest entry of a row. -/
def greatest (w : Fin n → EReal) : EReal := Finset.univ.sup w

theorem le_greatest (w : Fin n → EReal) (j : Fin n) : w j ≤ greatest w := Finset.le_sup (Finset.mem_univ j)

/-- The positions that hold the greatest entry. -/
def holders (w : Fin n → EReal) : Finset (Fin n) := Finset.univ.filter fun j => greatest w ≤ w j

theorem mem_holders (w : Fin n → EReal) (j : Fin n) : j ∈ holders w ↔ greatest w ≤ w j := by
  simp [holders]

theorem holders_nonempty [NeZero n] (w : Fin n → EReal) : (holders w).Nonempty := by
  obtain ⟨j, _, hj⟩ := Finset.exists_mem_eq_sup (Finset.univ : Finset (Fin n)) Finset.univ_nonempty w
  exact ⟨j, (mem_holders w j).mpr (le_of_eq hj)⟩

/-- The first position that holds the greatest entry. -/
def firstHolder [NeZero n] (w : Fin n → EReal) : Fin n := (holders w).min' (holders_nonempty w)

theorem apply_firstHolder [NeZero n] (w : Fin n → EReal) : w (firstHolder w) = greatest w :=
  le_antisymm (le_greatest w _) ((mem_holders w _).mp ((holders w).min'_mem (holders_nonempty w)))

theorem firstHolder_le [NeZero n] (w : Fin n → EReal) (j : Fin n) (h : greatest w ≤ w j) : firstHolder w ≤ j :=
  (holders w).min'_le j ((mem_holders w j).mpr h)

/-- The row with one entry overwritten by `⊥`. -/
def strike (w : Fin n → EReal) (k : Fin n) : Fin n → EReal := fun j => if j = k then ⊥ else w j

/-- The row after `r` rounds. -/
def remaining [NeZero n] (x : Fin n → EReal) : ℕ → Fin n → EReal
  | 0 => x
  | r + 1 => strike (remaining x r) (firstHolder (remaining x r))

/-- The position taken in round `r`. -/
def pick [NeZero n] (x : Fin n → EReal) (r : ℕ) : Fin n := firstHolder (remaining x r)

/-- After `r` rounds the positions taken hold `⊥` and the others what they held at first. -/
theorem remaining_apply [NeZero n] (x : Fin n → EReal) (r : ℕ) (j : Fin n) :
    remaining x r j = if ∃ i < r, pick x i = j then ⊥ else x j := by
  induction r with
  | zero => simp [remaining]
  | succ r ih =>
    show strike (remaining x r) (pick x r) j = _
    unfold strike
    by_cases h : j = pick x r
    · rw [if_pos h, if_pos ⟨r, Nat.lt_succ_self r, h.symm⟩]
    · rw [if_neg h, ih]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.mp hi with h' | h'
      · exact h'
      · subst h'
        exact absurd e.symm h

/-- A position not yet taken keeps its entry. -/
theorem remaining_of_not_taken [NeZero n] (x : Fin n → EReal) (r : ℕ) (j : Fin n) (h : ∀ i < r, pick x i ≠ j) :
    remaining x r j = x j := by
  rw [remaining_apply, if_neg fun ⟨i, hi, e⟩ => h i hi e]

section real

variable [NeZero n] (x : Fin n → EReal) (hx : ∀ j, ⊥ < x j)
include hx

/-- As long as fewer rounds than positions have passed, the entry taken is not `⊥`. -/
theorem bot_lt_greatest (r : ℕ) (hr : r < n) : ⊥ < greatest (remaining x r) := by
  have hcard : ((Finset.range r).image (pick x)).card < (Finset.univ : Finset (Fin n)).card := by
    refine lt_of_le_of_lt Finset.card_image_le ?_
    rw [Finset.card_range, Finset.card_univ, Fintype.card_fin]
    exact hr
  obtain ⟨j, _, hj⟩ := Finset.exists_mem_notMem_of_card_lt_card hcard
  refine lt_of_lt_of_le (hx j) (le_of_eq_of_le (remaining_of_not_taken x r j fun i hi e => hj ?_).symm (le_greatest _ j))
  exact Finset.mem_image.mpr ⟨i, Finset.mem_range.mpr hi, e⟩

/-- The position taken was not taken before. -/
theorem pick_ne (r : ℕ) (hr : r < n) (i : ℕ) (hi : i < r) : pick x i ≠ pick x r := fun e => by
  have h := bot_lt_greatest x hx r hr
  rw [← apply_firstHolder, remaining_apply, if_pos ⟨i, hi, e⟩] at h
  exact lt_irrefl _ h

/-- The greatest entry left is the row's own entry at the position taken. -/
theorem greatest_remaining (r : ℕ) (hr : r < n) : greatest (remaining x r) = x (pick x r) := by
  rw [← apply_firstHolder]
  exact remaining_of_not_taken x r _ fun i hi => pick_ne x hx r hr i hi

/-- A position not taken before round `r` does not come before the one taken in round `r`: its entry is not greater,
    and where the entries are equal it is not further left. -/
theorem not_before (r : ℕ) (hr : r < n) (p : Fin n) (hp : ∀ i < r, pick x i ≠ p) :
    (decide (x (pick x r) < x p) || (decide (x p = x (pick x r)) && decide (p < pick x r))) = false := by
  have hle : x p ≤ x (pick x r) := by
    rw [← greatest_remaining x hx r hr, ← remaining_of_not_taken x r p hp]
    exact le_greatest _ p
  rw [Bool.or_eq_false_iff, Bool.and_eq_false_iff]
  refine ⟨decide_eq_false (not_lt.mpr hle), ?_⟩
  by_cases he : x p = x (pick x r)
  · refine Or.inr (decide_eq_false (not_lt.mpr (firstHolder_le _ p ?_)))
    rw [remaining_of_not_taken x r p hp, he, ← greatest_remaining x hx r hr]
  · exact Or.inl (decide_eq_false he)

end real

/-- Two relations that agree whenever the first position is the right one of the two sort an ascending list alike. -/
theorem stableSort_eq_of_agree (R R' : Fin n → Fin n → Bool) (h : ∀ a b : Fin n, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Sorting stably by the entry alone is sorting by the entry and then the position. -/
theorem sortedFrom_entry (x : Fin n → EReal) :
    sortedFrom (fun k k' : Fin n => decide (x k' < x k))
      = sortedFrom fun k k' : Fin n => decide (x k' < x k) || (decide (x k = x k') && decide (k < k')) := by
  have e : sortPositions n (fun k k' : Fin n => decide (x k' < x k))
      = sortPositions n fun k k' : Fin n => decide (x k' < x k) || (decide (x k = x k') && decide (k < k')) :=
    stableSort_eq_of_agree _ _ (fun a b hab => by
      rw [decide_eq_false (not_lt.mpr hab.le), Bool.and_false, Bool.or_false]) _ (List.pairwise_lt_finRange n)
  funext k
  unfold sortedFrom
  rw [List.get_of_eq e]
  rfl

/-- The stable sort in descending order starts with the positions that the rounds take. -/
theorem sortedFrom_eq_pick [NeZero n] (x : Fin n → EReal) (hx : ∀ j, ⊥ < x j) {k : ℕ} (hk : k ≤ n) (i : Fin k) :
    sortedFrom (fun a b : Fin n => decide (x b < x a)) (i.castLE hk) = pick x i.val := by
  rw [sortedFrom_entry]
  have hB := StrictTotalBefore.of_key_then_position (fun a b : EReal => decide (b < a)) x
    (fun a => by simp) (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)
  have hn : ∀ a : Fin k, a.val < n := fun a => lt_of_lt_of_le a.isLt hk
  refine hB.sortedFrom_eq_of_prefix hk (fun a => pick x a.val) ?_ ?_ ?_ i
  · intro a b hab
    rcases lt_trichotomy a.val b.val with h | h | h
    · exact absurd hab (pick_ne x hx b.val (hn b) a.val h)
    · exact Fin.ext h
    · exact absurd hab.symm (pick_ne x hx a.val (hn a) b.val h)
  · intro a b hab
    exact not_before x hx a.val (hn a) _ fun i hi => pick_ne x hx b.val (hn b) i (lt_trans hi hab)
  · intro a p hp
    exact not_before x hx a.val (hn a) p fun i hi => hp ⟨i, lt_trans hi a.isLt⟩

end Cert.Router
-- ==== Proof.Spec.lean ====
/-
What the router computes, in plain mathematics over the extended reals: one token's scores, its weights for the experts it
is sent to, its softmax over all experts, and the balance loss of the summed softmaxes.
-/
module

public import proofs.«01_k».proof.Proof.Pick
public import Idealize.ShloMosaic.PureOps.Ideal.Laws
public import Idealize.ShloMosaic.Lib.ValueIdxCore

@[expose] public section

noncomputable section

namespace Cert.Router

open Idealize.ShloMosaic Idealize.ShloMosaic.ValueIdx

/-- `h · σ(h)`. -/
def silu (h : EReal) : EReal := h * Ideal.logistic h

/-- One hidden unit of a token: the token's features against the unit's weights, plus its bias, through `silu`. -/
def unit {d : ℕ} (x w : Fin d → EReal) (b : EReal) : EReal := silu ((∑ k, x k * w k) + b)

/-- The weight of the `j`-th expert a token is sent to: the softmax of the eight largest scores. -/
def topWeight (x : Fin 64 → EReal) (j : Fin 8) : EReal :=
  Ideal.div (Ideal.exp (greatest (remaining x j.val) - greatest x))
    (∑ r : Fin 8, Ideal.exp (greatest (remaining x r.val) - greatest x))

/-- The softmax of all the scores of a token, at expert `e`. -/
def prob (x : Fin 64 → EReal) (e : Fin 64) : EReal :=
  Ideal.div (Ideal.exp (x e - greatest x)) (∑ k : Fin 64, Ideal.exp (x k - greatest x))

/-- How far an expert's mean share is from an even one, squared; `s` is the sum of the shares over 16384 tokens. -/
def deviation (s : EReal) : EReal :=
  (Ideal.div s (Ideal.ofBits .f32 0x46800000#32) - Ideal.ofBits .f32 0x3C800000#32)
    * (Ideal.div s (Ideal.ofBits .f32 0x46800000#32) - Ideal.ofBits .f32 0x3C800000#32)

/-- The balance loss: the summed deviations times the loss's coefficient over the number of experts. -/
def penalty (s : Fin 64 → EReal) : EReal := Ideal.ofBits .f32 0x3923D70A#32 * ∑ e : Fin 64, deviation (s e)

/-! ## The whole problem, from its five arrays -/

variable (x : (⟨2, ![16384, 4096]⟩ : Shape).Idx → EReal) (w₁ : (⟨2, ![4096, 4096]⟩ : Shape).Idx → EReal)
  (b₁ : (⟨1, ![4096]⟩ : Shape).Idx → EReal) (w₂ : (⟨2, ![64, 4096]⟩ : Shape).Idx → EReal)
  (b₂ : (⟨1, ![64]⟩ : Shape).Idx → EReal)

/-- Hidden unit `k` of token `r`. -/
def hidden (r : Fin 16384) (k : Fin 4096) : EReal := unit (fun d => x (ix2 r d)) (fun d => w₁ (ix2 k d)) (b₁ (ix1 k))

/-- What hidden unit `k` of token `r` adds to the score of expert `e`. -/
def part (r : Fin 16384) (e : Fin 64) (k : Fin 4096) : EReal := hidden x w₁ b₁ r k * w₂ (ix2 e k)

/-- The score of expert `e` for token `r`. -/
def score (r : Fin 16384) (e : Fin 64) : EReal := (∑ k : Fin 4096, part x w₁ b₁ w₂ r e k) + b₂ (ix1 e)

/-- The summed shares of expert `e`. -/
def load (e : Fin 64) : EReal := ∑ r : Fin 16384, prob (score x w₁ b₁ w₂ b₂ r) e

end Cert.Router
-- ==== Proof.Windows.lean ====
/-
What each input block holds, in terms of the five argument arrays: point `8 k + n` sees 1024 tokens from row `1024 k` on and
512 hidden units from column `512 n` on.
-/
module

public import proofs.«01_k».proof.Proof.IdealRun
public import proofs.«01_k».proof.Proof.Spec
public import Idealize.ShloMosaic.Lib.Pipeline.ValueKit
public import Idealize.ShloMosaic.Lib.ValueLayout
public import Idealize.ShloMosaic.Lib.ValueLayoutCasts

@[expose] public section

set_option maxRecDepth 16384

noncomputable section

namespace Cert.KernelIdeal.Windows

open Idealize.ShloMosaic hiding ix1 ix2
open Idealize.ShloMosaic.TcCoe Idealize.ShloMosaic.ValueIdx
open Idealize.ShloMosaic.Pipeline (Dat Cfg Window)
open Cert.KernelIdeal.Gen Cert.KernelIdeal.Body Cert.Router

variable (m : (ℓ : Loc nD τ sig) → Buf (Elt Ideal) ℓ)

/-- The tokens. -/
abbrev tokens (c : Dev nD) : S16384x4096.Idx → EReal := m ((c : Thread nD τ).loc main_arg0)
/-- The hidden layer's weights. -/
abbrev weights₁ (c : Dev nD) : S4096x4096.Idx → EReal := m ((c : Thread nD τ).loc main_arg1)
/-- The hidden layer's biases. -/
abbrev bias₁ (c : Dev nD) : S4096.Idx → EReal := m ((c : Thread nD τ).loc main_arg2)
/-- The scoring weights. -/
abbrev weights₂ (c : Dev nD) : S64x4096.Idx → EReal := m ((c : Thread nD τ).loc main_arg3)
/-- The scoring biases. -/
abbrev bias₂ (c : Dev nD) : S64.Idx → EReal := m ((c : Thread nD τ).loc main_arg4)

theorem index_0 : ∀ t : Fin cfg0.N, win0_0.index t = ![t.val / 8, 0] :=
  (by decide +kernel : ∀ t : Fin grid0.N, _)
theorem index_1 : ∀ t : Fin cfg0.N, win0_1.index t = ![t.val % 8, 0] :=
  (by decide +kernel : ∀ t : Fin grid0.N, _)
theorem index_2 : ∀ t : Fin cfg0.N, win0_2.index t = ![0, t.val % 8] :=
  (by decide +kernel : ∀ t : Fin grid0.N, _)
theorem index_3 : ∀ t : Fin cfg0.N, win0_3.index t = ![0, t.val % 8] :=
  (by decide +kernel : ∀ t : Fin grid0.N, _)
theorem index_4 : ∀ t : Fin cfg0.N, win0_4.index t = ![0, 0] :=
  (by decide +kernel : ∀ t : Fin grid0.N, _)

/-- The token in row `i` of point `t`'s block. -/
def tokenOf (t : Fin cfg0.N) (i : Fin 1024) : Fin 16384 := ⟨1024 * (t.val / 8) + i.val, by have := point_lt t; omega⟩
/-- The hidden unit in column `q` of point `t`'s block. -/
def unitOf (t : Fin cfg0.N) (q : Fin 512) : Fin 4096 := ⟨512 * (t.val % 8) + q.val, by omega⟩

theorem read_0 (c : Dev nD) (t : Fin cfg0.N) (i : Fin 1024) (d : Fin 4096) :
    iblk m c 0 t (ix2 i d) = tokens m c (ix2 (tokenOf t i) d) := by
  unfold iblk
  rw [View.read_apply]
  show V m c main_arg0 _ = _
  rw [V_main_arg0]
  refine congrArg (m ((c : Thread nD τ).loc main_arg0)) ?_
  funext a
  refine Fin.ext ?_
  match a with
  | ⟨0, _⟩ =>
    show win0_0.index t 0 * 1024 + 1 * i.val = 1024 * (t.val / 8) + i.val
    rw [index_0]; show t.val / 8 * 1024 + 1 * i.val = _; omega
  | ⟨1, _⟩ =>
    show win0_0.index t 1 * 4096 + 1 * d.val = d.val
    rw [index_0]; show 0 * 4096 + 1 * d.val = _; omega

theorem read_1 (c : Dev nD) (t : Fin cfg0.N) (q : Fin 512) (d : Fin 4096) :
    iblk m c 1 t (ix2 q d) = weights₁ m c (ix2 (unitOf t q) d) := by
  unfold iblk
  rw [View.read_apply]
  show V m c main_arg1 _ = _
  rw [V_main_arg1]
  refine congrArg (m ((c : Thread nD τ).loc main_arg1)) ?_
  funext a
  refine Fin.ext ?_
  match a with
  | ⟨0, _⟩ =>
    show win0_1.index t 0 * 512 + 1 * q.val = 512 * (t.val % 8) + q.val
    rw [index_1]; show t.val % 8 * 512 + 1 * q.val = _; omega
  | ⟨1, _⟩ =>
    show win0_1.index t 1 * 4096 + 1 * d.val = d.val
    rw [index_1]; show 0 * 4096 + 1 * d.val = _; omega

theorem read_3 (c : Dev nD) (t : Fin cfg0.N) (e : Fin 64) (q : Fin 512) :
    iblk m c 3 t (ix2 e q) = weights₂ m c (ix2 e (unitOf t q)) := by
  unfold iblk
  rw [View.read_apply]
  show V m c main_arg3 _ = _
  rw [V_main_arg3]
  refine congrArg (m ((c : Thread nD τ).loc main_arg3)) ?_
  funext a
  refine Fin.ext ?_
  match a with
  | ⟨0, _⟩ =>
    show win0_3.index t 0 * 64 + 1 * e.val = e.val
    rw [index_3]; show 0 * 64 + 1 * e.val = _; omega
  | ⟨1, _⟩ =>
    show win0_3.index t 1 * 512 + 1 * q.val = 512 * (t.val % 8) + q.val
    rw [index_3]; show t.val % 8 * 512 + 1 * q.val = _; omega

/-- The hidden biases as the region finds them: one row. -/
theorem row_2 (c : Dev nD) : V m c main_call0_v0
    = shapeCast S1x4096 (m ((c : Thread nD τ).loc main_arg2)) shapeCasts_S4096_S1x4096 := by
  entry_read
  rfl

/-- The scoring biases as the region finds them: one row. -/
theorem row_4 (c : Dev nD) : V m c main_call0_v1
    = shapeCast S1x64 (m ((c : Thread nD τ).loc main_arg4)) shapeCasts_S64_S1x64 := by
  entry_read
  rfl

theorem read_2 (c : Dev nD) (t : Fin cfg0.N) (q : Fin 512) :
    iblk m c 2 t (ix2 (0 : Fin 1) q) = bias₁ m c (ix1 (unitOf t q)) := by
  unfold iblk
  rw [View.read_apply]
  show V m c main_call0_v0 _ = _
  rw [row_2]
  refine (congrArg (shapeCast S1x4096 (m ((c : Thread nD τ).loc main_arg2)) shapeCasts_S4096_S1x4096)
    (?_ : _ = ix2 (0 : Fin 1) (unitOf t q))).trans (shapeCast_a_1a_apply _ _ _ _)
  funext a
  refine Fin.ext ?_
  match a with
  | ⟨0, _⟩ =>
    show win0_2.index t 0 * 1 + 1 * 0 = 0
    rw [index_2]; rfl
  | ⟨1, _⟩ =>
    show win0_2.index t 1 * 512 + 1 * q.val = 512 * (t.val % 8) + q.val
    rw [index_2]; show t.val % 8 * 512 + 1 * q.val = _; omega

theorem read_4 (c : Dev nD) (t : Fin cfg0.N) (e : Fin 64) :
    iblk m c 4 t (ix2 (0 : Fin 1) e) = bias₂ m c (ix1 e) := by
  unfold iblk
  rw [View.read_apply]
  show V m c main_call0_v1 _ = _
  rw [row_4]
  refine (congrArg (shapeCast S1x64 (m ((c : Thread nD τ).loc main_arg4)) shapeCasts_S64_S1x64)
    (?_ : _ = ix2 (0 : Fin 1) e)).trans (shapeCast_a_1a_apply _ _ _ _)
  funext a
  refine Fin.ext ?_
  match a with
  | ⟨0, _⟩ =>
    show win0_4.index t 0 * 1 + 1 * 0 = 0
    rw [index_4]; rfl
  | ⟨1, _⟩ =>
    show win0_4.index t 1 * 64 + 1 * e.val = e.val
    rw [index_4]; show 0 * 64 + 1 * e.val = _; omega

end Cert.KernelIdeal.Windows
-- ==== Proof.Logits.lean ====
/-
What one point of the grid computes, read at an index: the block's partial scores, as a sum over the 512 hidden units of
the point's column block.
-/
module

public import proofs.«01_k».proof.Proof.IdealBody
public import proofs.«01_k».proof.Proof.Spec
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Logits

open Idealize.ShloMosaic Idealize.ShloMosaic.ValueIdx Cert.KernelIdeal.Gen Cert.KernelIdeal.Body Cert.Router

variable (x0 : Vec Ideal S1024x4096 .f32) (x1 : Vec Ideal S512x4096 .f32) (x2 : Vec Ideal S1x512 .f32)
  (x3 : Vec Ideal S64x512 .f32)

/-- The first product contracts both operands' second axes. -/
theorem first_dims : dot_S1024x4096_S512x4096_S1024x512_1_1_0_0_n_n = DotDims.transposedRhs 1024 4096 512 := rfl

/-- So does the second. -/
theorem second_dims : dot_S1024x512_S64x512_S1024x64_1_1_0_0_n_n = DotDims.transposedRhs 1024 512 64 := rfl

/-- The hidden units before `silu`. -/
def linear : FVec Ideal S1024x512 .f32 :=
  addf (matmul (F := Ideal) (φ₁ := .f32) (φ₂ := .f32) dot_S1024x4096_S512x4096_S1024x512_1_1_0_0_n_n none x0 x1
      (constant S1024x512 .f32 0x00000000#32))
    (broadcastTo S1024x512 (shapeCast S1x512 x2 shapeCasts_S1x512_S1x512) broadcasts_S1x512_S1024x512)

theorem linear_apply (i : Fin 1024) (k : Fin 512) : linear x0 x1 x2 (ix2 i k)
    = (∑ d : Fin 4096, (x0 (ix2 i d) : EReal) * x1 (ix2 k d)) + x2 (ix2 (0 : Fin 1) k) := by
  show FloatOps.matmul (F := Ideal) (φ₁ := .f32) (φ₂ := .f32) dot_S1024x4096_S512x4096_S1024x512_1_1_0_0_n_n none x0 x1
      (constant S1024x512 .f32 0x00000000#32) (ix2 i k)
    + broadcastTo S1024x512 (shapeCast S1x512 x2 shapeCasts_S1x512_S1x512) broadcasts_S1x512_S1024x512 (ix2 i k) = _
  rw [first_dims, shapeCast_self, Ideal.matmul_transposedRhs_apply]
  refine congrArg₂ (fun a b : EReal => a + b) ?_ (broadcastTo_1b_ab_apply x2 _ i k)
  show Ideal.ofBits .f32 0x00000000#32 + _ = _
  rw [Ideal.ofBits_zero_f32, zero_add]

/-- The hidden units. -/
def units : FVec Ideal S1024x512 .f32 := mulf (linear x0 x1 x2) (logistic (linear x0 x1 x2))

theorem units_apply (i : Fin 1024) (k : Fin 512) : units x0 x1 x2 (ix2 i k)
    = unit (fun d : Fin 4096 => x0 (ix2 i d)) (fun d => x1 (ix2 k d)) (x2 (ix2 (0 : Fin 1) k)) := by
  show silu (linear x0 x1 x2 (ix2 i k)) = _
  rw [linear_apply]
  rfl

theorem partialOf_eq : partialOf (F := Ideal) x0 x1 x2 x3
    = shapeCast S1024x64 (matmul (F := Ideal) (φ₁ := .f32) (φ₂ := .f32) dot_S1024x512_S64x512_S1024x64_1_1_0_0_n_n none
        (units x0 x1 x2) x3 (constant S1024x64 .f32 0x00000000#32)) shapeCasts_S1024x64_S1024x64 := rfl

theorem partialOf_apply (i : Fin 1024) (e : Fin 64) : (partialOf (F := Ideal) x0 x1 x2 x3 (ix2 i e) : EReal)
    = ∑ k : Fin 512, unit (fun d : Fin 4096 => x0 (ix2 i d)) (fun d => x1 (ix2 k d)) (x2 (ix2 (0 : Fin 1) k))
        * (x3 (ix2 e k) : EReal) := by
  rw [partialOf_eq, shapeCast_self]
  show FloatOps.matmul (F := Ideal) (φ₁ := .f32) (φ₂ := .f32) dot_S1024x512_S64x512_S1024x64_1_1_0_0_n_n none
    (units x0 x1 x2) x3 (constant S1024x64 .f32 0x00000000#32) (ix2 i e) = _
  rw [second_dims, Ideal.matmul_transposedRhs_apply]
  show Ideal.ofBits .f32 0x00000000#32 + _ = _
  rw [Ideal.ofBits_zero_f32, zero_add]
  exact Finset.sum_congr rfl fun k _ => congrArg (fun a : EReal => a * _) (units_apply x0 x1 x2 i k)

theorem addedOf_apply (l : Vec Ideal S1024x64 .f32) (i : Fin 1024) (e : Fin 64) :
    (addedOf (F := Ideal) x0 x1 x2 x3 l (ix2 i e) : EReal)
      = (l (ix2 i e) : EReal) + partialOf (F := Ideal) x0 x1 x2 x3 (ix2 i e) := by
  have h : addedOf (F := Ideal) x0 x1 x2 x3 l
      = shapeCast S1024x64 (addf (F := Ideal) (φ := .f32) l (k0_pay1 (F := Ideal) x0 x1 x2 x3)) shapeCasts_S1024x64_S1024x64 := rfl
  have h' : partialOf (F := Ideal) x0 x1 x2 x3
      = shapeCast S1024x64 (k0_pay1 (F := Ideal) x0 x1 x2 x3) shapeCasts_S1024x64_S1024x64 := rfl
  rw [h, h', shapeCast_self, shapeCast_self]
  rfl

end Cert.KernelIdeal.Logits
-- ==== Proof.Rounds.lean ====
/-
The kernel's eight selection rounds, read row by row at the extended reals.

A round works on a block of 1024 rows of 64 lanes. It takes each row's maximum, the first lane that reaches it, and
overwrites that lane with `-∞`. Row by row this is one round of `Pick`: `greatest`, `firstHolder`, `strike`.
-/
module

public import proofs.«01_k».proof.Proof.IdealBody
public import proofs.«01_k».proof.Proof.Pick
public import Idealize.ShloMosaic.Lib.ValueLayout
public import Idealize.ShloMosaic.Lib.ValueLayoutCasts
public import Idealize.ShloMosaic.Lib.SortNet.Extract
public import Idealize.ShloMosaic.PureOps.Ideal.Laws

@[expose] public section

set_option maxRecDepth 16384

noncomputable section

namespace Cert.KernelIdeal.Rounds

open Idealize.ShloMosaic Idealize.ShloMosaic.ValueIdx Cert.KernelIdeal.Gen Cert.KernelIdeal.Body Cert.Router

/-! ## The operations of one round -/

/-- Each row's maximum, as a column. -/
def maxCol (v : FVec Ideal S1024x64 .f32) : FVec Ideal S1024x1 .f32 :=
  shapeCast S1024x1 (multiReduction .maximumf [1] S1024 v 0xFF800000#32 reduces_S1024x64_S1024 (.inl rfl) rfl)
    shapeCasts_S1024_S1024x1

/-- Each lane's number where the lane reaches the row's maximum, and 64 elsewhere. -/
def candidates (v : FVec Ideal S1024x64 .f32) : IVec S1024x64 32 :=
  select (cmpf .oge v (broadcastTo S1024x64 (maxCol v) broadcasts_S1024x1_S1024x64)) lanes (broadcast S1024x64 64#32)

/-- The first lane of each row that reaches the row's maximum, as a column. -/
def argCol (v : FVec Ideal S1024x64 .f32) : IVec S1024x1 32 :=
  shapeCast S1024x1 (multiReductionI .minsi [1] S1024 (candidates v) 2147483647#32 reduces_S1024x64_S1024 rfl)
    shapeCasts_S1024_S1024x1

/-- The block with the lane found in each row overwritten. -/
def next (v : FVec Ideal S1024x64 .f32) : FVec Ideal S1024x64 .f32 :=
  select (cmpi .eq lanes (broadcastTo S1024x64 (argCol v) broadcasts_S1024x1_S1024x64))
    (broadcast S1024x64 (maskWord (F := Ideal))) v

/-! ## Their readings -/

/-- Row `i` of a block. -/
def row (v : FVec Ideal S1024x64 .f32) (i : Fin 1024) : Fin 64 → EReal := fun j => v (ix2 i j)

theorem ofBits_mask : Ideal.ofBits .f32 0xFF800000#32 = ⊥ := by simp [Ideal.ofBits, Ideal.ieee]

theorem lift_row (i : Fin 1024) (k : Fin 64) :
    (reduces_S1024x64_S1024 : S1024x64.Reduces [1] S1024).lift (ix1 i) k = ix2 i k := by
  funext a
  apply Fin.ext
  match a with
  | ⟨0, _⟩ => rfl
  | ⟨1, _⟩ => rfl

theorem comp_lift {α : Type} (g : S1024x64.Idx → α) (i : Fin 1024) :
    (g ∘ (reduces_S1024x64_S1024 : S1024x64.Reduces [1] S1024).lift (ix1 i)) = fun k : Fin 64 => g (ix2 i k) :=
  funext fun k => congrArg g (lift_row i k)

theorem broadcast_col {α : Type} (v : S1024x1.Idx → α) (i : Fin 1024) (j : Fin 64) :
    broadcastTo S1024x64 v broadcasts_S1024x1_S1024x64 (ix2 i j) = v (ix2 i (0 : Fin 1)) :=
  broadcastTo_apply v _ _ _ fun a => match a with
    | ⟨0, _⟩ => rfl
    | ⟨1, _⟩ => rfl

theorem lanes_apply (i : Fin 1024) (j : Fin 64) : lanes (ix2 i j) = BitVec.ofNat 32 j.val :=
  iota_single_apply .tc S1024x64 32 1 _ _

/-- A choice by a decided proposition. -/
theorem select_decide {α : Type} (p : Prop) [Decidable p] (a b : α) :
    Scalar.select (BitVec.ofBool (decide p)) a b = if p then a else b := by
  by_cases h : p
  · rw [if_pos h, decide_eq_true h]
    rfl
  · rw [if_neg h, decide_eq_false h]
    rfl

theorem select_oge {α : Type} (x y : EReal) (a b : α) :
    Scalar.select (FloatOps.cmpf (F := Ideal) (φ := .f32) .oge x y) a b = if y ≤ x then a else b :=
  select_decide (y ≤ x) a b

theorem select_eq {α : Type} (x y : BitVec 32) (a b : α) :
    Scalar.select (IntOp.cmpi .eq x y) a b = if x = y then a else b := by
  show Scalar.select (BitVec.ofBool (x == y)) a b = _
  rw [beq_eq_decide, select_decide]

theorem cmpi_at (x y : IVec S1024x64 32) (i : S1024x64.Idx) : cmpi .eq x y i = IntOp.cmpi .eq (x i) (y i) := rfl

theorem maxCol_apply (v : FVec Ideal S1024x64 .f32) (i : Fin 1024) (u : Fin 1) :
    maxCol v (ix2 i u) = greatest (row v i) := by
  refine (shapeCast_a_a1_apply _ _ i u).trans
    ((Ideal.multiReduction_maximumf_single v _ reduces_S1024x64_S1024 (.inl rfl) rfl (ix1 i)).trans ?_)
  show (Finset.univ : Finset (Fin 64)).fold max (Ideal.ofBits .f32 0xFF800000#32) _ = _
  rw [ofBits_mask]
  show _ = (Finset.univ : Finset (Fin 64)).fold max ⊥ (row v i)
  congr 1
  funext k
  exact congrArg v (lift_row i k)

theorem candidates_apply (v : FVec Ideal S1024x64 .f32) (i : Fin 1024) (j : Fin 64) :
    candidates v (ix2 i j) = if greatest (row v i) ≤ row v i j then BitVec.ofNat 32 j.val else 64#32 := by
  unfold candidates
  rw [select_apply, cmpf_apply, broadcast_apply, broadcast_col, maxCol_apply, lanes_apply, select_oge]
  rfl

theorem toInt_small (k : ℕ) (hk : k ≤ 64) : (BitVec.ofNat 32 k).toInt = (k : ℤ) := by
  rw [BitVec.toInt_ofNat']
  show Int.bmod _ _ = _
  rw [Int.bmod_eq_of_le] <;> omega

theorem argCol_apply (v : FVec Ideal S1024x64 .f32) (i : Fin 1024) (u : Fin 1) :
    argCol v (ix2 i u) = BitVec.ofNat 32 (firstHolder (row v i)).val := by
  refine (shapeCast_a_a1_apply _ _ i u).trans
    ((multiReductionI_eq_fold .minsi (candidates v) _ reduces_S1024x64_S1024 rfl (ix1 i)).trans
      ((Shape.Reduces.fold_filter_drop_single _ _ _ _ _).trans ?_))
  apply BitVec.eq_of_toInt_eq
  have hom := Finset.fold_hom (op := IntOp.minsi (w := 32)) (op' := (min : ℤ → ℤ → ℤ)) (m := BitVec.toInt)
    (s := (Finset.univ : Finset (Fin 64))) (b := 2147483647#32) (f := fun k => candidates v (ix2 i k))
    SortNet.toInt_minsi
  have e : (candidates v ∘ (reduces_S1024x64_S1024 : S1024x64.Reduces [1] S1024).lift (ix1 i))
      = fun k : Fin 64 => candidates v (ix2 i k) := comp_lift (candidates v) i
  rw [e]
  clear e
  refine hom.symm.trans ?_
  have hf := (firstHolder (row v i)).isLt
  rw [toInt_small (firstHolder (row v i)).val (by omega)]
  have hval : ∀ k : Fin 64, (candidates v (ix2 i k)).toInt
      = if greatest (row v i) ≤ row v i k then (k.val : ℤ) else 64 := fun k => by
    rw [candidates_apply]
    split
    · exact toInt_small _ (by have := k.isLt; omega)
    · rfl
  apply le_antisymm
  · rw [Finset.fold_min_le]
    refine Or.inr ⟨firstHolder (row v i), Finset.mem_univ _, ?_⟩
    rw [hval, if_pos (le_of_eq (apply_firstHolder _).symm)]
  · rw [Finset.le_fold_min]
    refine ⟨?_, fun k _ => ?_⟩
    · show _ ≤ (2147483647 : ℤ)
      omega
    · rw [hval]
      split
      · next h => exact Int.ofNat_le.mpr (firstHolder_le _ k h)
      · omega

theorem row_next (v : FVec Ideal S1024x64 .f32) (i : Fin 1024) :
    row (next v) i = strike (row v i) (firstHolder (row v i)) := by
  funext j
  unfold row next
  rw [select_apply, cmpi_at, broadcast_apply, broadcast_col, argCol_apply, lanes_apply, select_eq]
  show (if _ then Ideal.ofBits .f32 0xFF800000#32 else _) = if j = firstHolder (row v i) then ⊥ else row v i j
  rw [ofBits_mask]
  refine if_congr ⟨fun h => ?_, fun h => by rw [h]⟩ rfl rfl
  have hj := j.isLt
  have hf := (firstHolder (row v i)).isLt
  have h3 := congrArg BitVec.toNat h
  rw [BitVec.toNat_ofNat, BitVec.toNat_ofNat, Nat.mod_eq_of_lt (by omega), Nat.mod_eq_of_lt (by omega)] at h3
  exact Fin.ext h3

/-! ## All the rounds -/

/-- The block after `r` rounds. -/
def work (v : FVec Ideal S1024x64 .f32) : ℕ → FVec Ideal S1024x64 .f32
  | 0 => v
  | r + 1 => next (work v r)

theorem row_work (v : FVec Ideal S1024x64 .f32) (r : ℕ) (i : Fin 1024) : row (work v r) i = remaining (row v i) r := by
  induction r with
  | zero => rfl
  | succ r ih =>
    show row (next (work v r)) i = _
    rw [row_next, ih]
    rfl

theorem maxCol_work (v : FVec Ideal S1024x64 .f32) (r : ℕ) (i : Fin 1024) (u : Fin 1) :
    maxCol (work v r) (ix2 i u) = greatest (remaining (row v i) r) := by
  rw [maxCol_apply, row_work]

theorem argCol_work (v : FVec Ideal S1024x64 .f32) (r : ℕ) (i : Fin 1024) (u : Fin 1) :
    argCol (work v r) (ix2 i u) = BitVec.ofNat 32 (pick (row v i) r).val := by
  rw [argCol_apply, row_work]
  rfl

/-! ## The values and positions side by side -/

/-- The eight maxima of each row. -/
def topVals (v : FVec Ideal S1024x64 .f32) : FVec Ideal S1024x8 .f32 :=
  concatenate S1024x8 1 [⟨S1024x1, maxCol (work v 0)⟩, ⟨S1024x1, maxCol (work v 1)⟩, ⟨S1024x1, maxCol (work v 2)⟩,
    ⟨S1024x1, maxCol (work v 3)⟩, ⟨S1024x1, maxCol (work v 4)⟩, ⟨S1024x1, maxCol (work v 5)⟩,
    ⟨S1024x1, maxCol (work v 6)⟩, ⟨S1024x1, maxCol (work v 7)⟩]
    concatenates_S1024x1_S1024x1_S1024x1_S1024x1_S1024x1_S1024x1_S1024x1_S1024x1_S1024x8_d1

/-- The eight lanes of each row. -/
def topLanes (v : FVec Ideal S1024x64 .f32) : IVec S1024x8 32 :=
  concatenate S1024x8 1 [⟨S1024x1, argCol (work v 0)⟩, ⟨S1024x1, argCol (work v 1)⟩, ⟨S1024x1, argCol (work v 2)⟩,
    ⟨S1024x1, argCol (work v 3)⟩, ⟨S1024x1, argCol (work v 4)⟩, ⟨S1024x1, argCol (work v 5)⟩,
    ⟨S1024x1, argCol (work v 6)⟩, ⟨S1024x1, argCol (work v 7)⟩]
    concatenates_S1024x1_S1024x1_S1024x1_S1024x1_S1024x1_S1024x1_S1024x1_S1024x1_S1024x8_d1

/-- Eight columns side by side, read at a place: the column the place names. -/
theorem eight_apply {α : Type} (f : Fin 8 → (S1024x1.Idx → α))
    (h : Shape.Concatenates ((List.ofFn fun n : Fin 8 => (⟨S1024x1, f n⟩ : (s : Shape) × (s.Idx → α))).map (·.1)) S1024x8 1)
    (i : Fin 1024) (j : Fin 8) :
    concatenate S1024x8 1 (List.ofFn fun n : Fin 8 => (⟨S1024x1, f n⟩ : (s : Shape) × (s.Idx → α))) h (ix2 i j)
      = f j (ix2 i (0 : Fin 1)) :=
  concatenate_ofFn_unit_apply (t := S1024x8) (s₁ := S1024x1) 1 f h rfl rfl (ix2 i j) j rfl (ix2 i (0 : Fin 1))
    (fun b hb => match b, hb with
      | ⟨0, _⟩, _ => rfl
      | ⟨1, _⟩, hb => absurd rfl hb)

theorem topVals_apply (v : FVec Ideal S1024x64 .f32) (i : Fin 1024) (j : Fin 8) :
    topVals v (ix2 i j) = greatest (remaining (row v i) j.val) :=
  (eight_apply (fun n : Fin 8 => maxCol (work v n.val)) _ i j).trans (maxCol_work v j.val i 0)

theorem topLanes_apply (v : FVec Ideal S1024x64 .f32) (i : Fin 1024) (j : Fin 8) :
    topLanes v (ix2 i j) = BitVec.ofNat 32 (pick (row v i) j.val).val :=
  (eight_apply (fun n : Fin 8 => argCol (work v n.val)) _ i j).trans (argCol_work v j.val i 0)

/-! ## What the body stores, in these terms -/

variable (l : Vec Ideal S1024x64 .f32) (b : Vec Ideal S1x64 .f32)

/-- The block's logits with the bias row added. -/
abbrev biased : FVec Ideal S1024x64 .f32 := k0_pay5 (F := Ideal) l b

theorem topiOf_eq : topiOf (F := Ideal) l b = topLanes (biased l b) := rfl

theorem vals_eq : k0_pay30 (F := Ideal) (k0_pay6 l b) (k0_pay9 l b) (k0_pay12 l b) (k0_pay16 (k0_pay15 l b))
    (k0_pay19 lanes (k0_pay14 l b) (k0_pay15 l b)) (k0_pay22 lanes (k0_pay14 l b) (k0_pay15 l b))
    (k0_pay24 lanes (k0_pay14 l b) (k0_pay15 l b)) (k0_pay25 lanes (k0_pay14 l b) (k0_pay15 l b))
    (k0_pay27 lanes (k0_pay14 l b) (k0_pay15 l b)) maskWord = topVals (biased l b) := rfl

theorem topiOf_apply (i : Fin 1024) (j : Fin 8) :
    topiOf (F := Ideal) l b (ix2 i j) = BitVec.ofNat 32 (pick (row (biased l b) i) j.val).val := by
  rw [topiOf_eq, topLanes_apply]

end Cert.KernelIdeal.Rounds
-- ==== Proof.Outputs.lean ====
/-
What the body stores at a last column block, read at an index: the eight weights of each row, the row of softmax sums and
the loss.
-/
module

public import proofs.«01_k».proof.Proof.Rounds
public import proofs.«01_k».proof.Proof.Spec
public import Idealize.ShloMosaic.Lib.IdealHost

@[expose] public section

set_option maxRecDepth 16384

noncomputable section

namespace Cert.KernelIdeal.Outputs

open Idealize.ShloMosaic Idealize.ShloMosaic.ValueIdx Cert.KernelIdeal.Gen Cert.KernelIdeal.Body Cert.KernelIdeal.Rounds Cert.Router

/-! ## Rows and columns -/

theorem lift_row8 (i : Fin 1024) (k : Fin 8) :
    (reduces_S1024x8_S1024 : S1024x8.Reduces [1] S1024).lift (ix1 i) k = ix2 i k := by
  funext a
  apply Fin.ext
  match a with
  | ⟨0, _⟩ => rfl
  | ⟨1, _⟩ => rfl

theorem lift_col (e : Fin 64) (k : Fin 1024) :
    (reduces_S1024x64_S64 : S1024x64.Reduces [0] S64).lift (ix1 e) k = ix2 k e := by
  funext a
  apply Fin.ext
  match a with
  | ⟨0, _⟩ => rfl
  | ⟨1, _⟩ => rfl

theorem lift_one (k : Fin 64) :
    (reduces_S1x64_S1 : S1x64.Reduces [1] S1).lift (ix1 (0 : Fin 1)) k = ix2 (0 : Fin 1) k := by
  funext a
  apply Fin.ext
  match a with
  | ⟨0, _⟩ => rfl
  | ⟨1, _⟩ => rfl

theorem broadcast_col8 {α : Type} (v : S1024x1.Idx → α) (i : Fin 1024) (j : Fin 8) :
    broadcastTo S1024x8 v broadcasts_S1024x1_S1024x8 (ix2 i j) = v (ix2 i (0 : Fin 1)) :=
  broadcastTo_apply v _ _ _ fun a => match a with
    | ⟨0, _⟩ => rfl
    | ⟨1, _⟩ => rfl

/-- The first column of eight. -/
theorem first_col {α : Type} (v : S1024x8.Idx → α) (i : Fin 1024) :
    extractStridedSlice S1024x1 ![0, 0] v slices_S1024x8_o0_0_S1024x1 (ix2 i (0 : Fin 1)) = v (ix2 i (0 : Fin 8)) :=
  extractStridedSlice_apply _ v _ _ _ fun a => match a with
    | ⟨0, _⟩ => (Nat.zero_add _).symm
    | ⟨1, _⟩ => rfl

/-- Each row's sum, as a column. -/
def sumCol (v : FVec Ideal S1024x64 .f32) : FVec Ideal S1024x1 .f32 :=
  shapeCast S1024x1 (multiReduction .add [1] S1024 v 0x00000000#32 reduces_S1024x64_S1024 (.inl rfl) rfl)
    shapeCasts_S1024_S1024x1

/-- Each row's sum, of rows of eight. -/
def sumCol8 (v : FVec Ideal S1024x8 .f32) : FVec Ideal S1024x1 .f32 :=
  shapeCast S1024x1 (multiReduction .add [1] S1024 v 0x00000000#32 reduces_S1024x8_S1024 (.inl rfl) rfl)
    shapeCasts_S1024_S1024x1

/-- Each column's sum, as a row. -/
def sumRow (v : FVec Ideal S1024x64 .f32) : FVec Ideal S1x64 .f32 :=
  shapeCast S1x64 (multiReduction .add [0] S64 v 0x00000000#32 reduces_S1024x64_S64 (.inl rfl) rfl) shapeCasts_S64_S1x64

theorem sumCol_apply (v : FVec Ideal S1024x64 .f32) (i : Fin 1024) :
    sumCol v (ix2 i (0 : Fin 1)) = ∑ k : Fin 64, v (ix2 i k) :=
  (shapeCast_a_a1_apply _ _ i 0).trans
    ((Ideal.multiReduction_add_single v _ reduces_S1024x64_S1024 (.inl rfl) rfl (ix1 i)).trans
      (Finset.sum_congr rfl fun k _ => congrArg v (lift_row i k)))

theorem sumCol8_apply (v : FVec Ideal S1024x8 .f32) (i : Fin 1024) :
    sumCol8 v (ix2 i (0 : Fin 1)) = ∑ k : Fin 8, v (ix2 i k) :=
  (shapeCast_a_a1_apply _ _ i 0).trans
    ((Ideal.multiReduction_add_single v _ reduces_S1024x8_S1024 (.inl rfl) rfl (ix1 i)).trans
      (Finset.sum_congr rfl fun k _ => congrArg v (lift_row8 i k)))

theorem sumRow_apply (v : FVec Ideal S1024x64 .f32) (u : Fin 1) (e : Fin 64) :
    sumRow v (ix2 u e) = ∑ k : Fin 1024, v (ix2 k e) :=
  (shapeCast_a_1a_apply _ _ u e).trans
    ((Ideal.multiReduction_add_single v _ reduces_S1024x64_S64 (.inl rfl) rfl (ix1 e)).trans
      (Finset.sum_congr rfl fun k _ => congrArg v (lift_col e k)))

/-! ## The weights -/

/-- The exponentials of rows of eight, less their first. -/
def shifted8 (tv : FVec Ideal S1024x8 .f32) : FVec Ideal S1024x8 .f32 :=
  exp (subf tv (broadcastTo S1024x8 (extractStridedSlice S1024x1 ![0, 0] tv slices_S1024x8_o0_0_S1024x1)
    broadcasts_S1024x1_S1024x8))

theorem shifted8_apply (tv : FVec Ideal S1024x8 .f32) (i : Fin 1024) (j : Fin 8) :
    shifted8 tv (ix2 i j) = Ideal.exp (tv (ix2 i j) - tv (ix2 i (0 : Fin 8))) := by
  show Ideal.exp (tv (ix2 i j) - broadcastTo S1024x8 (extractStridedSlice S1024x1 ![0, 0] tv slices_S1024x8_o0_0_S1024x1)
    broadcasts_S1024x1_S1024x8 (ix2 i j)) = _
  rw [broadcast_col8, first_col]

/-- Rows of eight, softmaxed. -/
def soft8 (tv : FVec Ideal S1024x8 .f32) : FVec Ideal S1024x8 .f32 :=
  divf (shifted8 tv) (broadcastTo S1024x8 (sumCol8 (shifted8 tv)) broadcasts_S1024x1_S1024x8)

theorem soft8_apply (tv : FVec Ideal S1024x8 .f32) (i : Fin 1024) (j : Fin 8) :
    soft8 tv (ix2 i j) = Ideal.div (Ideal.exp (tv (ix2 i j) - tv (ix2 i (0 : Fin 8))))
      (∑ r : Fin 8, Ideal.exp (tv (ix2 i r) - tv (ix2 i (0 : Fin 8)))) := by
  show Ideal.div (shifted8 tv (ix2 i j)) (broadcastTo S1024x8 (sumCol8 (shifted8 tv)) broadcasts_S1024x1_S1024x8 (ix2 i j)) = _
  rw [broadcast_col8, sumCol8_apply, shifted8_apply]
  exact congrArg _ (Finset.sum_congr rfl fun r _ => shifted8_apply tv i r)

variable (l : Vec Ideal S1024x64 .f32) (b : Vec Ideal S1x64 .f32)

theorem topwOf_eq : topwOf (F := Ideal) l b = soft8 (topVals (biased l b)) := rfl

theorem topwOf_apply (i : Fin 1024) (j : Fin 8) :
    topwOf (F := Ideal) l b (ix2 i j) = topWeight (row (biased l b) i) j := by
  rw [topwOf_eq, soft8_apply]
  simp only [topVals_apply]
  rfl

/-! ## The softmax sums -/

/-- The exponentials of a block, less each row's first maximum. -/
def shifted (v : FVec Ideal S1024x64 .f32) : FVec Ideal S1024x64 .f32 :=
  exp (subf v (broadcastTo S1024x64 (extractStridedSlice S1024x1 ![0, 0] (topVals v) slices_S1024x8_o0_0_S1024x1)
    broadcasts_S1024x1_S1024x64))

theorem shifted_apply (v : FVec Ideal S1024x64 .f32) (i : Fin 1024) (e : Fin 64) :
    shifted v (ix2 i e) = Ideal.exp (row v i e - greatest (row v i)) := by
  show Ideal.exp (v (ix2 i e) - broadcastTo S1024x64 (extractStridedSlice S1024x1 ![0, 0] (topVals v)
    slices_S1024x8_o0_0_S1024x1) broadcasts_S1024x1_S1024x64 (ix2 i e)) = _
  rw [broadcast_col, first_col, topVals_apply]
  rfl

/-- A block, softmaxed by rows. -/
def soft (v : FVec Ideal S1024x64 .f32) : FVec Ideal S1024x64 .f32 :=
  divf (shifted v) (broadcastTo S1024x64 (sumCol (shifted v)) broadcasts_S1024x1_S1024x64)

theorem soft_apply (v : FVec Ideal S1024x64 .f32) (i : Fin 1024) (e : Fin 64) :
    soft v (ix2 i e) = prob (row v i) e := by
  show Ideal.div (shifted v (ix2 i e)) (broadcastTo S1024x64 (sumCol (shifted v)) broadcasts_S1024x1_S1024x64 (ix2 i e)) = _
  rw [broadcast_col, sumCol_apply, shifted_apply]
  exact congrArg _ (Finset.sum_congr rfl fun k _ => shifted_apply v i k)

theorem rowOf_eq (r : Vec Ideal S1x64 .f32) : rowOf (F := Ideal) l b r
    = shapeCast S1x64 (addf (F := Ideal) (φ := .f32) r (sumRow (soft (biased l b)))) shapeCasts_S1x64_S1x64 := rfl

theorem rowOf_apply (r : Vec Ideal S1x64 .f32) (u : Fin 1) (e : Fin 64) :
    (rowOf (F := Ideal) l b r (ix2 u e) : EReal)
      = (r (ix2 u e) : EReal) + ∑ i : Fin 1024, prob (row (biased l b) i) e := by
  rw [rowOf_eq, shapeCast_self]
  show (r (ix2 u e) : EReal) + sumRow (soft (biased l b)) (ix2 u e) = _
  rw [sumRow_apply]
  exact congrArg _ (Finset.sum_congr rfl fun i _ => soft_apply _ i e)

/-! ## The loss -/

/-- The squared deviations of a row of sums. -/
def deviations (r : Vec Ideal S1x64 .f32) : FVec Ideal S1x64 .f32 :=
  mulf (subf (divf (F := Ideal) (φ := .f32) r (broadcast S1x64 (Scalar.ofBits .f32 0x46800000#32))) (broadcast S1x64 (Scalar.ofBits .f32 0x3C800000#32)))
    (subf (divf (F := Ideal) (φ := .f32) r (broadcast S1x64 (Scalar.ofBits .f32 0x46800000#32))) (broadcast S1x64 (Scalar.ofBits .f32 0x3C800000#32)))

theorem deviations_apply (r : Vec Ideal S1x64 .f32) (e : Fin 64) :
    deviations r (ix2 (0 : Fin 1) e) = deviation (r (ix2 (0 : Fin 1) e)) := rfl

/-- The row's sum. -/
def sumOne (v : FVec Ideal S1x64 .f32) : FVec Ideal S1x1 .f32 :=
  shapeCast S1x1 (multiReduction .add [1] S1 v 0x00000000#32 reduces_S1x64_S1 (.inl rfl) rfl) shapeCasts_S1_S1x1

theorem sumOne_apply (v : FVec Ideal S1x64 .f32) :
    sumOne v (ix2 (0 : Fin 1) (0 : Fin 1)) = ∑ e : Fin 64, v (ix2 (0 : Fin 1) e) :=
  (shapeCast_a_a1_apply _ _ (0 : Fin 1) 0).trans
    ((Ideal.multiReduction_add_single v _ reduces_S1x64_S1 (.inl rfl) rfl (ix1 (0 : Fin 1))).trans
      (Finset.sum_congr rfl fun k _ => congrArg v (lift_one k)))

theorem lossOf_eq (r : Vec Ideal S1x64 .f32) : lossOf (F := Ideal) r
    = mulf (F := Ideal) (φ := .f32) (broadcast S1x1 (Scalar.ofBits .f32 0x3923D70A#32)) (sumOne (deviations r)) := rfl

theorem lossOf_apply (r : Vec Ideal S1x64 .f32) :
    lossOf (F := Ideal) r (ix2 (0 : Fin 1) (0 : Fin 1)) = penalty fun e => r (ix2 (0 : Fin 1) e) := by
  rw [lossOf_eq]
  show Ideal.ofBits .f32 0x3923D70A#32 * sumOne (deviations r) (ix2 (0 : Fin 1) (0 : Fin 1)) = _
  rw [sumOne_apply]
  rfl

/-- The bias row is added to every row. -/
theorem biased_apply (i : Fin 1024) (e : Fin 64) :
    (biased l b (ix2 i e) : EReal) = (l (ix2 i e) : EReal) + b (ix2 (0 : Fin 1) e) := by
  show (l (ix2 i e) : EReal) + broadcastTo S1024x64 (shapeCast S1x64 b shapeCasts_S1x64_S1x64) broadcasts_S1x64_S1024x64 (ix2 i e) = _
  rw [shapeCast_self]
  exact congrArg _ (broadcastTo_1b_ab_apply b _ i e)

end Cert.KernelIdeal.Outputs
-- ==== Proof.Blocks.lean ====
/-
A sum taken block by block: a family over `Fin n` continued by zeros past its end, so that the sum of its first so many
entries grows by one block at a time.
-/
module

public import Mathlib.Data.EReal.Basic
public import Mathlib.Algebra.BigOperators.Fin
public import Mathlib.Data.EReal.Operations

@[expose] public section

noncomputable section

namespace Cert.Router

open Finset

variable {n : ℕ} (f : Fin n → EReal)

/-- The family continued by zeros. -/
def extended (j : ℕ) : EReal := if h : j < n then f ⟨j, h⟩ else 0

/-- The sum of the first `k` entries. -/
def upTo (k : ℕ) : EReal := ∑ j ∈ range k, extended f j

theorem upTo_zero : upTo f 0 = 0 := rfl

theorem upTo_all : upTo f n = ∑ i : Fin n, f i := by
  unfold upTo
  rw [Finset.sum_range]
  exact Finset.sum_congr rfl fun i _ => dif_pos i.isLt

/-- One block more. -/
theorem upTo_add (a b : ℕ) (h : ∀ q : Fin b, a + q.val < n) :
    upTo f (a + b) = upTo f a + ∑ q : Fin b, f ⟨a + q.val, h q⟩ := by
  unfold upTo
  rw [Finset.sum_range_add, Finset.sum_range (fun j => extended f (a + j))]
  exact congrArg _ (Finset.sum_congr rfl fun q _ => dif_pos (h q))

end Cert.Router
-- ==== Proof.Scores.lean ====
/-
What the kernel's carried buffers hold, at an index: the scores of a block's tokens once its last column block is done, and
the summed shares of the experts after each row block.
-/
module

public import proofs.«01_k».proof.Proof.Windows
public import proofs.«01_k».proof.Proof.Logits
public import proofs.«01_k».proof.Proof.Outputs
public import proofs.«01_k».proof.Proof.Blocks

@[expose] public section

set_option maxRecDepth 16384

noncomputable section

namespace Cert.KernelIdeal.Scores

open Idealize.ShloMosaic hiding ix1 ix2
open Idealize.ShloMosaic.TcCoe Idealize.ShloMosaic.ValueIdx
open Cert.KernelIdeal.Gen Cert.KernelIdeal.Body Cert.KernelIdeal.Windows Cert.KernelIdeal.Logits Cert.KernelIdeal.Rounds
  Cert.KernelIdeal.Outputs Cert.Router

variable (m : (ℓ : Loc nD τ sig) → Buf (Elt Ideal) ℓ)

/-- The hidden units' contributions to the score of expert `e` for token `r`. -/
abbrev parts (c : Dev nD) (r : Fin 16384) (e : Fin 64) : Fin 4096 → EReal :=
  part (tokens m c) (weights₁ m c) (bias₁ m c) (weights₂ m c) r e

/-- The scores of token `r`. -/
abbrev scores (c : Dev nD) (r : Fin 16384) : Fin 64 → EReal :=
  score (tokens m c) (weights₁ m c) (bias₁ m c) (weights₂ m c) (bias₂ m c) r

theorem partialAt_apply (c : Dev nD) (t : Fin cfg0.N) (i : Fin 1024) (e : Fin 64) :
    (partialAt m c t (ix2 i e) : EReal) = ∑ q : Fin 512, parts m c (tokenOf t i) e (unitOf t q) := by
  unfold partialAt
  refine (partialOf_apply _ _ _ _ i e).trans (Finset.sum_congr rfl fun q _ => ?_)
  refine congrArg₂ (fun a b : EReal => a * b) ?_ (read_3 m c t e q)
  show unit _ _ _ = unit _ _ _
  rw [show (fun d : Fin 4096 => iblk m c 0 t (ix2 i d)) = fun d => tokens m c (ix2 (tokenOf t i) d) from
      funext fun d => read_0 m c t i d,
    show (fun d : Fin 4096 => iblk m c 1 t (ix2 q d)) = fun d => weights₁ m c (ix2 (unitOf t q) d) from
      funext fun d => read_1 m c t q d,
    read_2 m c t q]

/-- After point `n` the logits buffer holds the sums over the column blocks so far. -/
theorem logits_apply (c : Dev nD) (i : Fin 1024) (e : Fin 64) : ∀ (n : ℕ) (h : n < cfg0.N),
    (logits m c n h (ix2 i e) : EReal) = upTo (parts m c (tokenOf ⟨n, h⟩ i) e) (512 * (n % 8) + 512) := by
  intro n
  induction n with
  | zero =>
    intro h
    rw [logits_first m c 0 h rfl, partialAt_apply, upTo_add _ (512 * (0 % 8)) 512 (fun q => by omega)]
    exact (zero_add _).symm
  | succ n ih =>
    intro h
    by_cases hn : (n + 1) % 8 = 0
    · rw [logits_first m c (n + 1) h hn, partialAt_apply, upTo_add _ (512 * ((n + 1) % 8)) 512 (fun q => by omega)]
      rw [show upTo (parts m c (tokenOf ⟨n + 1, h⟩ i) e) (512 * ((n + 1) % 8)) = 0 by rw [hn]; exact upTo_zero _, zero_add]
      rfl
    · rw [logits_later m c n h hn]
      refine (addedOf_apply _ _ _ _ _ i e).trans ?_
      rw [upTo_add _ (512 * ((n + 1) % 8)) 512 (fun q => by omega)]
      refine congrArg₂ (fun a b : EReal => a + b) ?_ (partialAt_apply m c ⟨n + 1, h⟩ i e)
      rw [ih (Nat.lt_of_succ_lt h)]
      rw [show tokenOf ⟨n + 1, h⟩ i = tokenOf ⟨n, Nat.lt_of_succ_lt h⟩ i from
        Fin.ext (show 1024 * ((n + 1) / 8) + i.val = 1024 * (n / 8) + i.val by omega)]
      congr 1
      omega

/-- At a last column block the biased logits are the tokens' scores. -/
theorem finished (c : Dev nD) (t : Fin cfg0.N) (h : t.val % 8 = 7) (i : Fin 1024) :
    row (biased (logits m c t.val t.isLt) (iblk m c 4 t)) i = scores m c (tokenOf t i) := by
  funext e
  refine (biased_apply _ _ i e).trans ?_
  refine congrArg₂ (fun a b : EReal => a + b) ?_ (read_4 m c t e)
  rw [logits_apply, h]
  exact upTo_all (parts m c (tokenOf t i) e)

/-- The share of expert `e`, by token. -/
abbrev shares (c : Dev nD) (e : Fin 64) (r : Fin 16384) : EReal := prob (scores m c r) e

theorem firstRow_zero (e : Fin 64) : (firstRow (F := Ideal) (k0_pay33 (F := Ideal)) (ix2 (0 : Fin 1) e) : EReal) = 0 := by
  show Ideal.ofBits .f32 0x00000000#32 = 0
  exact Ideal.ofBits_zero_f32

theorem rowOf_block (c : Dev nD) (k : ℕ) (hk : k < 16) (e : Fin 64) (r : Vec Ideal S1x64 .f32) :
    (rowOf (blockLogits m c k hk) (biasRow m c k hk) r (ix2 (0 : Fin 1) e) : EReal)
      = r (ix2 (0 : Fin 1) e) + ∑ i : Fin 1024, shares m c e ⟨1024 * k + i.val, by omega⟩ := by
  refine (rowOf_apply _ _ r 0 e).trans ?_
  refine congrArg (fun a : EReal => _ + a) (Finset.sum_congr rfl fun i _ => ?_)
  refine congrArg (fun x => prob x e) ?_
  refine (finished m c (lastPoint k hk) (show (8 * k + 7) % 8 = 7 by omega) i).trans ?_
  exact congrArg (scores m c) (Fin.ext (show 1024 * ((8 * k + 7) / 8) + i.val = 1024 * k + i.val by omega))

/-- After row block `k` the sums buffer's first row holds the shares summed over the tokens so far. -/
theorem sums_apply (c : Dev nD) (e : Fin 64) : ∀ (k : ℕ) (hk : k < 16),
    (firstRow (sums m c k hk) (ix2 (0 : Fin 1) e) : EReal) = upTo (shares m c e) (1024 * k + 1024) := by
  intro k
  induction k with
  | zero =>
    intro hk
    unfold sums
    rw [firstRow_putRow, rowOf_block, firstRow_zero, upTo_add _ (1024 * 0) 1024 (fun q => by omega)]
    rfl
  | succ k ih =>
    intro hk
    unfold sums
    rw [firstRow_putRow, rowOf_block, ih, upTo_add _ (1024 * (k + 1)) 1024 (fun q => by omega)]
    rfl

theorem lossAt_apply (c : Dev nD) : (lossAt m c (ix2 (0 : Fin 1) (0 : Fin 1)) : EReal)
    = penalty (load (tokens m c) (weights₁ m c) (bias₁ m c) (weights₂ m c) (bias₂ m c)) := by
  unfold lossAt
  refine (lossOf_apply _).trans (congrArg penalty (funext fun e => ?_))
  exact (sums_apply m c e 15 (by decide)).trans (upTo_all (shares m c e))

end Cert.KernelIdeal.Scores
-- ==== Proof.Results.lean ====
/-
What the kernel leaves in its three result arrays, from its five argument arrays.
-/
module

public import proofs.«01_k».proof.Proof.Scores

@[expose] public section

set_option maxRecDepth 16384

noncomputable section

namespace Cert.KernelIdeal.Results

open Idealize.ShloMosaic hiding ix1 ix2
open Idealize.ShloMosaic.TcCoe Idealize.ShloMosaic.ValueIdx Idealize.SL.Sem
open Idealize.ShloMosaic.Pipeline (Dat Cfg Window)
open Cert.KernelIdeal.Gen Cert.KernelIdeal.Body Cert.KernelIdeal.Windows Cert.KernelIdeal.Scores Cert.KernelIdeal.Rounds
  Cert.KernelIdeal.Outputs Cert.Router

variable (m : (ℓ : Loc nD τ sig) → Buf (Elt Ideal) ℓ) (ρ : Dev nD → PrngReg)

/-- The weights of the eight experts of every token. -/
def weightsOut (c : Dev nD) : S16384x8.Idx → EReal := fun i => topWeight (scores m c (i 0)) (i 1)

/-- The eight experts of every token. -/
def expertsOut (c : Dev nD) : S16384x8.Idx → BitVec 32 := fun i => BitVec.ofNat 32 (pick (scores m c (i 0)) (i 1).val).val

/-- The balance loss. -/
def lossOut (c : Dev nD) : S1x1.Idx → EReal := fun _ =>
  penalty (load (tokens m c) (weights₁ m c) (bias₁ m c) (weights₂ m c) (bias₂ m c))

theorem index_5 : ∀ t : Fin cfg0.N, win0_5.index t = ![t.val / 8, 0] :=
  (by decide +kernel : ∀ t : Fin grid0.N, _)
theorem index_6 : ∀ t : Fin cfg0.N, win0_6.index t = ![t.val / 8, 0] :=
  (by decide +kernel : ∀ t : Fin grid0.N, _)

/-- The last point of the grid. -/
def endPoint : Fin cfg0.N := lastPoint 15 (by decide)

theorem emb_5 (t : Fin cfg0.N) (i : Fin 1024) (j : Fin 8) :
    (win0_5.blk t).view.emb (ix2 i j) = ix2 (tokenOf t i) j := by
  funext a
  refine Fin.ext ?_
  match a with
  | ⟨0, _⟩ =>
    show win0_5.index t 0 * 1024 + 1 * i.val = 1024 * (t.val / 8) + i.val
    rw [index_5]; show t.val / 8 * 1024 + 1 * i.val = _; omega
  | ⟨1, _⟩ =>
    show win0_5.index t 1 * 8 + 1 * j.val = j.val
    rw [index_5]; show 0 * 8 + 1 * j.val = _; omega

theorem emb_6 (t : Fin cfg0.N) (i : Fin 1024) (j : Fin 8) :
    (win0_6.blk t).view.emb (ix2 i j) = ix2 (tokenOf t i) j := by
  funext a
  refine Fin.ext ?_
  match a with
  | ⟨0, _⟩ =>
    show win0_6.index t 0 * 1024 + 1 * i.val = 1024 * (t.val / 8) + i.val
    rw [index_6]; show t.val / 8 * 1024 + 1 * i.val = _; omega
  | ⟨1, _⟩ =>
    show win0_6.index t 1 * 8 + 1 * j.val = j.val
    rw [index_6]; show 0 * 8 + 1 * j.val = _; omega

theorem split (y : S1024x8.Idx) : y = ix2 (y 0) (y 1) :=
  funext fun a => match a with | ⟨0, _⟩ => rfl | ⟨1, _⟩ => rfl

theorem split_one (y : S1x1.Idx) : y = ix2 (0 : Fin 1) (0 : Fin 1) :=
  funext fun a => match a with | ⟨0, _⟩ => Subsingleton.elim (α := Fin 1) _ _ | ⟨1, _⟩ => Subsingleton.elim (α := Fin 1) _ _

theorem final_5 (c : Dev nD) : (data m 0 c).arrAt 5 cfg0.N = weightsOut m c := by
  refine (data m 0 c).arrAt_eq_of_covers 5 _ (by decide +kernel) fun t hf y => ?_
  have ht := (flush0_5 t).mp hf
  blk_simp
  rw [after_5]
  obtain ⟨i, j, rfl⟩ : ∃ (i : Fin 1024) (j : Fin 8), y = ix2 i j := ⟨y 0, y 1, split y⟩
  refine (topwOf_apply _ _ i j).trans ?_
  rw [finished m c t ht i]
  exact (congrArg (weightsOut m c) (emb_5 t i j)).symm

theorem final_6 (c : Dev nD) : (data m 0 c).arrAt 6 cfg0.N = expertsOut m c := by
  refine (data m 0 c).arrAt_eq_of_covers 6 _ (by decide +kernel) fun t hf y => ?_
  have ht := (flush0_6 t).mp hf
  blk_simp
  rw [after_6]
  obtain ⟨i, j, rfl⟩ : ∃ (i : Fin 1024) (j : Fin 8), y = ix2 i j := ⟨y 0, y 1, split y⟩
  refine (topiOf_apply _ _ i j).trans ?_
  rw [finished m c t ht i]
  exact (congrArg (expertsOut m c) (emb_6 t i j)).symm

theorem final_7 (c : Dev nD) : (data m 0 c).arrAt 7 cfg0.N = lossOut m c := by
  refine (data m 0 c).arrAt_eq_of_after_last 7 endPoint (by decide +kernel) _ fun y => ?_
  blk_simp
  rw [after_7]
  obtain rfl := split_one y
  exact lossAt_apply m c

/-- The kernel runs, and leaves these results. -/
theorem run_results : θ_run defs (onTc (τ := τ) (main (F := Ideal))) ⟨m, fun _ => 0, ρ⟩ (fun r => ∀ c : Dev nD,
    r.2.mem ((c : Thread nD τ).loc main_v0_0) = weightsOut m c
      ∧ r.2.mem ((c : Thread nD τ).loc main_v0_1) = expertsOut m c
      ∧ r.2.mem ((c : Thread nD τ).loc main_v0_2) = lossOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h c).1 5).trans (final_5 m c), ((h c).1 6).trans (final_6 m c),
      ((h c).1 7).trans (final_7 m c),
      ((h c).1 0).trans (((data m 0 c).arrAt_in 0 rfl _).trans ((data_A m c 0).trans (V_main_arg0 m c))),
      ((h c).1 1).trans (((data m 0 c).arrAt_in 1 rfl _).trans ((data_A m c 1).trans (V_main_arg1 m c))),
      ((h c).2 main_arg2 (Pipeline.mem_restRefs_of main_arg2 (by decide) (by decide))).trans (V_main_arg2 m c),
      ((h c).1 3).trans (((data m 0 c).arrAt_in 3 rfl _).trans ((data_A m c 3).trans (V_main_arg3 m c))),
      ((h c).2 main_arg4 (Pipeline.mem_restRefs_of main_arg4 (by decide) (by decide))).trans (V_main_arg4 m c)⟩)
    (run m ρ)

end Cert.KernelIdeal.Results
-- ==== Proof.RefScores.lean ====
/-
The reference's scores, read at an index: token `r`'s score of expert `e`.
-/
module

public import proofs.«01_k».proof.Proof.Gen.ReferenceIdeal.Read
public import proofs.«01_k».proof.Proof.Spec
public import Idealize.ShloMosaic.Lib.IdealHost

@[expose] public section

set_option maxRecDepth 16384

noncomputable section

namespace Cert.ReferenceIdeal.Scores

open Idealize.ShloMosaic Idealize.ShloMosaic.ValueIdx Cert.ReferenceIdeal Cert.ReferenceIdeal.Read Cert.Router

variable (x0 : (⟨S16384x4096, .f32⟩ : BufTy).Contents (Elt Ideal)) (x1 : (⟨S4096x4096, .f32⟩ : BufTy).Contents (Elt Ideal))
  (x2 : (⟨S4096, .f32⟩ : BufTy).Contents (Elt Ideal)) (x3 : (⟨S64x4096, .f32⟩ : BufTy).Contents (Elt Ideal))
  (x4 : (⟨S64, .f32⟩ : BufTy).Contents (Elt Ideal))

/-- A hidden unit before `silu`. -/
theorem linear (r : Fin 16384) (k : Fin 4096) : (val_main_v4 (F := Ideal) x0 x1 x2 (ix2 r k) : EReal)
    = (∑ d : Fin 4096, (x0 (ix2 r d) : EReal) * x1 (ix2 k d)) + x2 (ix1 k) := by
  rw [val_main_v4_apply, val_main_v1_apply, val_main_v3_apply, val_main_v2_apply]
  refine congrArg₂ (fun a b : EReal => a + b) (Finset.sum_congr rfl fun d _ => ?_) ?_
  · rw [val_main_v0_apply]
    exact congrArg₂ (fun a b : EReal => a * b)
      (congrArg x0 (funext fun a => match a with | ⟨0, _⟩ => rfl | ⟨1, _⟩ => rfl))
      (congrArg x1 (funext fun a => match a with | ⟨0, _⟩ => rfl | ⟨1, _⟩ => rfl))
  · exact congrArg x2 (funext fun a => match a with | ⟨0, _⟩ => rfl)

/-- A hidden unit. -/
theorem hidden_eq (r : Fin 16384) (k : Fin 4096) :
    (val_main_v11 (F := Ideal) x0 x1 x2 (ix2 r k) : EReal) = hidden x0 x1 x2 r k := by
  rw [val_main_v11_apply, val_main_v10_apply, val_main_v9_apply, val_main_cst_0_apply, val_main_v8_apply,
    val_main_v7_apply, val_main_cst_apply, val_main_v6_apply, val_main_v5_apply, linear]
  show (_ : EReal) * Ideal.div (Ideal.ofBits .f32 0x3F800000#32) (Ideal.ofBits .f32 0x3F800000#32 + Ideal.exp (-_)) = _
  rw [Ideal.ofBits_one_f32]
  rfl

/-- A score. -/
theorem score_eq (r : Fin 16384) (e : Fin 64) :
    (val_main_v16 (F := Ideal) x0 x1 x2 x3 x4 (ix2 r e) : EReal) = score x0 x1 x2 x3 x4 r e := by
  rw [val_main_v16_apply, val_main_v13_apply, val_main_v15_apply, val_main_v14_apply]
  refine congrArg₂ (fun a b : EReal => a + b) (Finset.sum_congr rfl fun k _ => ?_) ?_
  · rw [val_main_v12_apply, show lidx_main_v13 (ix2 r e) k = ix2 r k from
      funext fun a => match a with | ⟨0, _⟩ => rfl | ⟨1, _⟩ => rfl]
    exact congrArg₂ (fun a b : EReal => a * b) (hidden_eq x0 x1 x2 r k)
      (congrArg x3 (funext fun a => match a with | ⟨0, _⟩ => rfl | ⟨1, _⟩ => rfl))
  · exact congrArg x4 (funext fun a => match a with | ⟨0, _⟩ => rfl)

end Cert.ReferenceIdeal.Scores
-- ==== Proof.RefTop.lean ====
/-
The reference's top-eight selection, read at an index. Row `r` of its results holds, in order, the scores and the positions
that the selection rounds of `Pick` find in that row.
-/
module

public import proofs.«01_k».proof.Proof.RefScores

@[expose] public section

set_option maxRecDepth 16384

noncomputable section

namespace Cert.ReferenceIdeal.Top

open Idealize.ShloMosaic Idealize.ShloMosaic.ValueIdx Cert.ReferenceIdeal Cert.ReferenceIdeal.Gen Cert.ReferenceIdeal.Read Cert.Router

/-- A comparison's word, asked whether it is one, answers the comparison. -/
theorem word_eq_one (p : Prop) [Decidable p] : (BitVec.ofBool (decide p) == 1#1) = decide p := by
  by_cases h : p
  · rw [decide_eq_true h]; rfl
  · rw [decide_eq_false h]; rfl

/-- Place `e` of row `r`, moved along the row to `k`. -/
theorem along_row (r : Fin 16384) (e k : Fin 64) :
    Shape.Idx.along (s := S16384x64) (ix2 r e) (1 : Fin 2) k = ix2 r k := by
  funext a
  match a with
  | ⟨0, _⟩ => exact Function.update_of_ne (show (0 : Fin 2) ≠ 1 by decide) _ _
  | ⟨1, _⟩ => exact Function.update_self _ _ _

variable (v : FVec Ideal S16384x64 .f32)

/-- The word the reference carries along: the place in the row. -/
def places : IVec S16384x64 32 := fun i => if hd : 1 < S16384x64.rank then iotaInDim S16384x64 32 ⟨1, hd⟩ i else 0#32

theorem places_apply (r : Fin 16384) (k : Fin 64) : places (ix2 r k) = BitVec.ofNat 32 k.val := rfl

/-- The row sorted, both its scores and their places. -/
def sorted : (S16384x64.Idx → Ideal .f32) × (S16384x64.Idx → BitVec 32) :=
  Host.sort2 S16384x64 1 (fun l r => FloatOps.cmpfTotal (F := Ideal) (φ := .f32) .gt l.1 r.1) v places

/-- Where the sorted row's entry `e` came from. -/
def origin (r : Fin 16384) (e : Fin 64) : Fin 64 :=
  sortedFrom (fun k k' : Fin 64 => (FloatOps.cmpfTotal (F := Ideal) (φ := .f32) .gt
    (v (Shape.Idx.along (s := S16384x64) (ix2 r e) (1 : Fin 2) k)) (v (Shape.Idx.along (s := S16384x64) (ix2 r e) (1 : Fin 2) k')) == 1#1)) e

theorem sorted_fst (r : Fin 16384) (e : Fin 64) :
    (sorted v).1 (ix2 r e) = v (Shape.Idx.along (s := S16384x64) (ix2 r e) (1 : Fin 2) (origin v r e)) := rfl

theorem sorted_snd (r : Fin 16384) (e : Fin 64) :
    (sorted v).2 (ix2 r e) = places (Shape.Idx.along (s := S16384x64) (ix2 r e) (1 : Fin 2) (origin v r e)) := rfl

theorem origin_eq (r : Fin 16384) (hx : ∀ e : Fin 64, (⊥ : EReal) < v (ix2 r e)) (j : Fin 8) :
    origin v r (j.castLE (by decide)) = pick (fun e => v (ix2 r e)) j.val := by
  rw [← sortedFrom_eq_pick (fun e => v (ix2 r e)) hx (k := 8) (by decide) j]
  unfold origin
  congr 1
  funext k k'
  rw [along_row, along_row]
  exact word_eq_one _

theorem slice8 {α : Type} (y : S16384x64.Idx → α) (r : Fin 16384) (j : Fin 8) :
    extractStridedSlice S16384x8 (fun _ => 0) y sliceFits_S16384x64_S16384x8 (ix2 r j) = y (ix2 r (j.castLE (by decide))) :=
  extractStridedSlice_apply _ y _ _ _ fun a => match a with
    | ⟨0, _⟩ => (Nat.zero_add _).symm
    | ⟨1, _⟩ => (Nat.zero_add _).symm

theorem values_at (r : Fin 16384) (hx : ∀ e : Fin 64, (⊥ : EReal) < v (ix2 r e)) (j : Fin 8) :
    (Host.topK S16384x8 1 (FloatOps.cmpfTotal (F := Ideal) (φ := .f32) .gt) v sliceFits_S16384x64_S16384x8).1 (ix2 r j)
      = v (ix2 r (pick (fun e => v (ix2 r e)) j.val)) := by
  show extractStridedSlice S16384x8 (fun _ => 0) (sorted v).1 sliceFits_S16384x64_S16384x8 (ix2 r j) = _
  rw [slice8, sorted_fst, along_row, origin_eq v r hx]

theorem indices_at (r : Fin 16384) (hx : ∀ e : Fin 64, (⊥ : EReal) < v (ix2 r e)) (j : Fin 8) :
    (Host.topK S16384x8 1 (FloatOps.cmpfTotal (F := Ideal) (φ := .f32) .gt) v sliceFits_S16384x64_S16384x8).2 (ix2 r j)
      = BitVec.ofNat 32 (pick (fun e => v (ix2 r e)) j.val).val := by
  show extractStridedSlice S16384x8 (fun _ => 0) (sorted v).2 sliceFits_S16384x64_S16384x8 (ix2 r j) = _
  rw [slice8, sorted_snd, along_row, origin_eq v r hx, places_apply]

end Cert.ReferenceIdeal.Top
-- ==== Proof.RefLoss.lean ====
/-
The reference's weights and loss, read at an index and brought to the terms of `Spec`.
-/
module

public import proofs.«01_k».proof.Proof.RefTop
public import Idealize.ShloMosaic.Lib.KernelVsHost

@[expose] public section

set_option maxRecDepth 16384

noncomputable section

namespace Cert.ReferenceIdeal.Loss

open Idealize.ShloMosaic Idealize.ShloMosaic.ValueIdx Cert.ReferenceIdeal Cert.ReferenceIdeal.Gen Cert.ReferenceIdeal.Read
  Cert.ReferenceIdeal.Scores Cert.ReferenceIdeal.Top Cert.Router

/-! ## Row maxima -/

theorem ofBits_least : Ideal.ofBits .f32 0xFF800000#32 = ⊥ := by simp [Ideal.ofBits, Ideal.ieee]

theorem reduces8 : S16384x8.Reduces [1] S16384 := by decide
theorem reduces64 : S16384x64.Reduces [1] S16384 := by decide

theorem lift8 (r : Fin 16384) (k : Fin 8) : reduces8.lift (ix1 r) k = ix2 r k := by
  funext a
  apply Fin.ext
  match a with
  | ⟨0, _⟩ => rfl
  | ⟨1, _⟩ => rfl

theorem lift64 (r : Fin 16384) (k : Fin 64) : reduces64.lift (ix1 r) k = ix2 r k := by
  funext a
  apply Fin.ext
  match a with
  | ⟨0, _⟩ => rfl
  | ⟨1, _⟩ => rfl

theorem max8 (v : FVec Ideal S16384x8 .f32) (r : Fin 16384) :
    Host.reduce FloatOps.maximumf v (constant S_ .f32 0xFF800000#32) reducesTo_S16384x8_S16384_d1 h_S_ (ix1 r)
      = greatest fun k : Fin 8 => v (ix2 r k) := by
  refine (congrFun (hostReduce_maximumf_eq_multiReduction v _ reducesTo_S16384x8_S16384_d1 h_S_ reduces8 (.inl rfl) rfl) _).trans
    ((Ideal.multiReduction_maximumf_single v _ reduces8 (.inl rfl) rfl (ix1 r)).trans ?_)
  show (Finset.univ : Finset (Fin 8)).fold max (Ideal.ofBits .f32 0xFF800000#32) _ = _
  rw [ofBits_least]
  show _ = (Finset.univ : Finset (Fin 8)).fold max ⊥ fun k : Fin 8 => (v (ix2 r k) : EReal)
  congr 1
  funext k
  exact congrArg v (lift8 r k)

theorem max64 (v : FVec Ideal S16384x64 .f32) (r : Fin 16384) :
    Host.reduce FloatOps.maximumf v (constant S_ .f32 0xFF800000#32) reducesTo_S16384x64_S16384_d1 h_S_ (ix1 r)
      = greatest fun k : Fin 64 => v (ix2 r k) := by
  refine (congrFun (hostReduce_maximumf_eq_multiReduction v _ reducesTo_S16384x64_S16384_d1 h_S_ reduces64 (.inl rfl) rfl) _).trans
    ((Ideal.multiReduction_maximumf_single v _ reduces64 (.inl rfl) rfl (ix1 r)).trans ?_)
  show (Finset.univ : Finset (Fin 64)).fold max (Ideal.ofBits .f32 0xFF800000#32) _ = _
  rw [ofBits_least]
  show _ = (Finset.univ : Finset (Fin 64)).fold max ⊥ fun k : Fin 64 => (v (ix2 r k) : EReal)
  congr 1
  funext k
  exact congrArg v (lift64 r k)

/-- The greatest of the first eight entries taken is the greatest of the row. -/
theorem greatest_picks (x : Fin 64 → EReal) (hx : ∀ e, ⊥ < x e) :
    (greatest fun j : Fin 8 => x (pick x j.val)) = greatest x := by
  refine le_antisymm (Finset.sup_le fun j _ => le_greatest x _) ?_
  refine le_of_eq_of_le (?_ : _ = x (pick x (0 : Fin 8).val)) (le_greatest (fun j : Fin 8 => x (pick x j.val)) 0)
  exact greatest_remaining x hx 0 (by decide)

/-! ## The stages -/

variable (x0 : (⟨S16384x4096, .f32⟩ : BufTy).Contents (Elt Ideal)) (x1 : (⟨S4096x4096, .f32⟩ : BufTy).Contents (Elt Ideal))
  (x2 : (⟨S4096, .f32⟩ : BufTy).Contents (Elt Ideal)) (x3 : (⟨S64x4096, .f32⟩ : BufTy).Contents (Elt Ideal))
  (x4 : (⟨S64, .f32⟩ : BufTy).Contents (Elt Ideal))

theorem scores_row (r : Fin 16384) :
    (fun e : Fin 64 => (val_main_v16 (F := Ideal) x0 x1 x2 x3 x4 (ix2 r e) : EReal)) = score x0 x1 x2 x3 x4 r :=
  funext fun e => score_eq x0 x1 x2 x3 x4 r e

section top

variable (hs : ∀ r e, ⊥ < score x0 x1 x2 x3 x4 r e)
include hs

theorem values_eq (r : Fin 16384) (j : Fin 8) : (val_main_values (F := Ideal) x0 x1 x2 x3 x4 (ix2 r j) : EReal)
    = score x0 x1 x2 x3 x4 r (pick (score x0 x1 x2 x3 x4 r) j.val) := by
  unfold val_main_values
  rw [values_at _ r (fun e => by rw [score_eq]; exact hs r e) j, scores_row, score_eq]

theorem indices_eq (r : Fin 16384) (j : Fin 8) : val_main_indices (F := Ideal) x0 x1 x2 x3 x4 (ix2 r j)
    = BitVec.ofNat 32 (pick (score x0 x1 x2 x3 x4 r) j.val).val := by
  unfold val_main_indices
  rw [indices_at _ r (fun e => by rw [score_eq]; exact hs r e) j, scores_row]

theorem v19_eq (r : Fin 16384) : (val_main_v19 (F := Ideal) x0 x1 x2 x3 x4 (ix1 r) : EReal)
    = greatest (score x0 x1 x2 x3 x4 r) := by
  rw [val_main_v19_apply, val_main_v18_apply, val_main_cst_2_apply]
  show max (Ideal.ofBits .f32 0xFF800000#32) (val_main_v17 (F := Ideal) x0 x1 x2 x3 x4 (ix1 r) : EReal) = _
  rw [ofBits_least, bot_sup_eq]
  unfold val_main_v17
  refine (max8 _ r).trans ?_
  rw [show (fun k : Fin 8 => (val_main_values (F := Ideal) x0 x1 x2 x3 x4 (ix2 r k) : EReal))
    = fun k : Fin 8 => score x0 x1 x2 x3 x4 r (pick (score x0 x1 x2 x3 x4 r) k.val) from
      funext fun k => values_eq x0 x1 x2 x3 x4 hs r k]
  exact greatest_picks _ (hs r)

theorem v23_eq (r : Fin 16384) (j : Fin 8) : (val_main_v23 (F := Ideal) x0 x1 x2 x3 x4 (ix2 r j) : EReal)
    = Ideal.exp (greatest (remaining (score x0 x1 x2 x3 x4 r) j.val) - greatest (score x0 x1 x2 x3 x4 r)) := by
  rw [val_main_v23_apply, val_main_v22_apply, values_eq x0 x1 x2 x3 x4 hs, val_main_v21_apply, val_main_v20_apply,
    show idx_main_v20 (idx_main_v21 (ix2 r j)) = ix1 r from funext fun a => match a with | ⟨0, _⟩ => rfl,
    v19_eq x0 x1 x2 x3 x4 hs, greatest_remaining _ (hs r) j.val (by omega)]
  rfl

/-- The reference's weights. -/
theorem weights_eq (r : Fin 16384) (j : Fin 8) : (val_main_v27 (F := Ideal) x0 x1 x2 x3 x4 (ix2 r j) : EReal)
    = topWeight (score x0 x1 x2 x3 x4 r) j := by
  rw [val_main_v27_apply, val_main_v26_apply, val_main_v25_apply, v23_eq x0 x1 x2 x3 x4 hs,
    show idx_main_v25 (idx_main_v26 (ix2 r j)) = ix1 r from funext fun a => match a with | ⟨0, _⟩ => rfl,
    val_main_v24_apply, val_main_cst_3_apply]
  show Ideal.div _ (Ideal.ofBits .f32 0x00000000#32 + _) = _
  rw [Ideal.ofBits_zero_f32, zero_add]
  refine congrArg (Ideal.div _) (Finset.sum_congr rfl fun k _ => ?_)
  rw [show idx_main_v24 (ix1 r) k = ix2 r k from funext fun a => match a with | ⟨0, _⟩ => rfl | ⟨1, _⟩ => rfl]
  exact v23_eq x0 x1 x2 x3 x4 hs r k

end top

theorem v30_eq (r : Fin 16384) : (val_main_v30 (F := Ideal) x0 x1 x2 x3 x4 (ix1 r) : EReal)
    = greatest (score x0 x1 x2 x3 x4 r) := by
  rw [val_main_v30_apply, val_main_v29_apply, val_main_cst_5_apply]
  show max (Ideal.ofBits .f32 0xFF800000#32) (val_main_v28 (F := Ideal) x0 x1 x2 x3 x4 (ix1 r) : EReal) = _
  rw [ofBits_least, bot_sup_eq]
  unfold val_main_v28
  refine (max64 _ r).trans ?_
  rw [scores_row]

theorem v34_eq (r : Fin 16384) (e : Fin 64) : (val_main_v34 (F := Ideal) x0 x1 x2 x3 x4 (ix2 r e) : EReal)
    = Ideal.exp (score x0 x1 x2 x3 x4 r e - greatest (score x0 x1 x2 x3 x4 r)) := by
  rw [val_main_v34_apply, val_main_v33_apply, score_eq, val_main_v32_apply, val_main_v31_apply,
    show idx_main_v31 (idx_main_v32 (ix2 r e)) = ix1 r from funext fun a => match a with | ⟨0, _⟩ => rfl,
    v30_eq]
  rfl

theorem v38_eq (r : Fin 16384) (e : Fin 64) : (val_main_v38 (F := Ideal) x0 x1 x2 x3 x4 (ix2 r e) : EReal)
    = prob (score x0 x1 x2 x3 x4 r) e := by
  rw [val_main_v38_apply, val_main_v37_apply, val_main_v36_apply, v34_eq,
    show idx_main_v36 (idx_main_v37 (ix2 r e)) = ix1 r from funext fun a => match a with | ⟨0, _⟩ => rfl,
    val_main_v35_apply, val_main_cst_6_apply]
  show Ideal.div _ (Ideal.ofBits .f32 0x00000000#32 + _) = _
  rw [Ideal.ofBits_zero_f32, zero_add]
  refine congrArg (Ideal.div _) (Finset.sum_congr rfl fun k _ => ?_)
  rw [show idx_main_v35 (ix1 r) k = ix2 r k from funext fun a => match a with | ⟨0, _⟩ => rfl | ⟨1, _⟩ => rfl]
  exact v34_eq x0 x1 x2 x3 x4 r k

theorem v39_eq (e : Fin 64) : (val_main_v39 (F := Ideal) x0 x1 x2 x3 x4 (ix1 e) : EReal) = load x0 x1 x2 x3 x4 e := by
  rw [val_main_v39_apply, val_main_cst_7_apply]
  show Ideal.ofBits .f32 0x00000000#32 + _ = _
  rw [Ideal.ofBits_zero_f32, zero_add]
  refine Finset.sum_congr rfl fun r _ => ?_
  rw [show idx_main_v39 (ix1 e) r = ix2 r e from funext fun a => match a with | ⟨0, _⟩ => rfl | ⟨1, _⟩ => rfl]
  exact v38_eq x0 x1 x2 x3 x4 r e

/-! ## The loss's constants -/

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

theorem ofBits_coefficient : Ideal.ofBits .f32 0x3C23D70A#32 = ((10737418 / 2 ^ 30 : ℝ) : EReal) := by
  simp [Ideal.ofBits, Ideal.ieee, -EReal.coe_mul]; norm_num

theorem ofBits_coefficient_64th : Ideal.ofBits .f32 0x3923D70A#32 = ((10737418 / 2 ^ 36 : ℝ) : EReal) := by
  simp [Ideal.ofBits, Ideal.ieee, -EReal.coe_mul]; norm_num

/-- Dividing by 64 multiplies by its inverse. -/
theorem div_64 (s : EReal) : Ideal.div s (Ideal.ofBits .f32 0x42800000#32) = s * ((1 / 64 : ℝ) : EReal) := by
  rw [ofBits_64]
  unfold Ideal.div
  rw [if_neg (by rw [← EReal.coe_zero, EReal.coe_eq_coe_iff]; norm_num), ← EReal.coe_inv]
  norm_num

/-- An even share. -/
theorem even_share : Ideal.div (Ideal.ofBits .f32 0x3F800000#32) (Ideal.ofBits .f32 0x42800000#32)
    = Ideal.ofBits .f32 0x3C800000#32 := by
  rw [div_64, Ideal.ofBits_one_f32, one_mul, ofBits_64th]

/-- The loss's two ways of scaling agree. -/
theorem scaled (s : EReal) : Ideal.ofBits .f32 0x3C23D70A#32 * Ideal.div s (Ideal.ofBits .f32 0x42800000#32)
    = Ideal.ofBits .f32 0x3923D70A#32 * s := by
  rw [div_64, mul_comm s, ← mul_assoc, ofBits_coefficient, ofBits_coefficient_64th, ← EReal.coe_mul]
  congr 2
  norm_num

theorem v46_eq (e : Fin 64) : (val_main_v46 (F := Ideal) x0 x1 x2 x3 x4 (ix1 e) : EReal)
    = deviation (load x0 x1 x2 x3 x4 e) := by
  have h : (val_main_v45 (F := Ideal) x0 x1 x2 x3 x4 (ix1 e) : EReal)
      = Ideal.div (load x0 x1 x2 x3 x4 e) (Ideal.ofBits .f32 0x46800000#32) - Ideal.ofBits .f32 0x3C800000#32 := by
    rw [val_main_v45_apply, val_main_v41_apply, v39_eq, val_main_v40_apply, val_main_cst_8_apply, val_main_v44_apply,
      val_main_v42_apply, val_main_cst_9_apply, val_main_v43_apply, val_main_cst_10_apply]
    show Ideal.div _ _ - Ideal.div (Ideal.ofBits .f32 0x3F800000#32) (Ideal.ofBits .f32 0x42800000#32) = _
    rw [even_share]
    rfl
  rw [val_main_v46_apply, h]
  rfl

/-- A sum over the indices of a vector of 64. -/
theorem sum_ix1 (f : S64.Idx → EReal) : ∑ j : S64.Idx, f j = ∑ e : Fin 64, f (ix1 e) :=
  (Fintype.sum_equiv ⟨fun e : Fin 64 => (ix1 e : S64.Idx), fun j => j 0, fun _ => rfl,
    fun j => funext fun a => match a with | ⟨0, _⟩ => rfl⟩ (fun e => f (ix1 e)) f fun _ => rfl).symm

/-- The reference's loss. -/
theorem loss_eq : (val_main_v50 (F := Ideal) x0 x1 x2 x3 x4 (ix2 (0 : Fin 1) (0 : Fin 1)) : EReal)
    = penalty (load x0 x1 x2 x3 x4) := by
  have h : ∀ i : S_.Idx, (val_main_v49 (F := Ideal) x0 x1 x2 x3 x4 i : EReal) = penalty (load x0 x1 x2 x3 x4) := fun i => by
    rw [val_main_v49_apply, val_main_cst_13_apply, val_main_v48_apply, val_main_cst_12_apply, val_main_v47_apply,
      val_main_cst_11_apply]
    show Ideal.ofBits .f32 0x3C23D70A#32 * Ideal.div (Ideal.ofBits .f32 0x00000000#32 + _) (Ideal.ofBits .f32 0x42800000#32) = _
    rw [scaled, Ideal.ofBits_zero_f32, zero_add, sum_ix1]
    exact congrArg _ (Finset.sum_congr rfl fun e _ => v46_eq x0 x1 x2 x3 x4 e)
  exact h _

end Cert.ReferenceIdeal.Loss
-- ==== Proof.Finite.lean ====
/-
Where every argument is a real number every score is one, so no score is `⊥`.
-/
module

public import proofs.«01_k».proof.Proof.Spec
public import proofs.«01_k».proof.Pre_finite

@[expose] public section

set_option maxRecDepth 16384

noncomputable section

namespace Cert.Router

open Idealize.ShloMosaic Idealize.ShloMosaic.ValueIdx

/-- `a` is a real number. -/
def IsReal (a : EReal) : Prop := ∃ r : ℝ, a = (r : EReal)

theorem IsReal.add {a b : EReal} : IsReal a → IsReal b → IsReal (a + b)
  | ⟨r, hr⟩, ⟨s, hs⟩ => ⟨r + s, by rw [hr, hs, EReal.coe_add]⟩

theorem IsReal.mul {a b : EReal} : IsReal a → IsReal b → IsReal (a * b)
  | ⟨r, hr⟩, ⟨s, hs⟩ => ⟨r * s, by rw [hr, hs, EReal.coe_mul]⟩

theorem IsReal.sum {ι : Type} (s : Finset ι) (f : ι → EReal) (h : ∀ i, IsReal (f i)) : IsReal (∑ i ∈ s, f i) :=
  Finset.sum_induction f IsReal (fun _ _ => IsReal.add) ⟨0, EReal.coe_zero.symm⟩ fun i _ => h i

theorem IsReal.silu {a : EReal} (h : IsReal a) : IsReal (silu a) := by
  refine h.mul ?_
  obtain ⟨r, rfl⟩ := h
  exact ⟨_, Ideal.logistic_coe r⟩

theorem IsReal.bot_lt {a : EReal} : IsReal a → ⊥ < a
  | ⟨r, hr⟩ => by rw [hr]; exact EReal.bot_lt_coe r

section score

variable (x : (⟨2, ![16384, 4096]⟩ : Shape).Idx → EReal) (w₁ : (⟨2, ![4096, 4096]⟩ : Shape).Idx → EReal)
  (b₁ : (⟨1, ![4096]⟩ : Shape).Idx → EReal) (w₂ : (⟨2, ![64, 4096]⟩ : Shape).Idx → EReal)
  (b₂ : (⟨1, ![64]⟩ : Shape).Idx → EReal)

theorem score_real (hx : ∀ i, IsReal (x i)) (hw₁ : ∀ i, IsReal (w₁ i)) (hb₁ : ∀ i, IsReal (b₁ i)) (hw₂ : ∀ i, IsReal (w₂ i))
    (hb₂ : ∀ i, IsReal (b₂ i)) (r : Fin 16384) (e : Fin 64) : IsReal (score x w₁ b₁ w₂ b₂ r e) := by
  refine (IsReal.sum _ _ fun k => ?_).add (hb₂ _)
  refine IsReal.mul (IsReal.silu ?_) (hw₂ _)
  exact (IsReal.sum _ _ fun d => (hx _).mul (hw₁ _)).add (hb₁ _)

end score

/-! ## The precondition -/

theorem ofBits_inf : Ideal.ofBits .f32 0x7F800000#32 = ⊤ := by simp [Ideal.ofBits, Ideal.ieee]

/-- A number whose magnitude compares less than infinity is real. -/
theorem real_of_below {a : EReal} (h : Ideal.cmp .olt (max a (-a)) (Ideal.ofBits .f32 0x7F800000#32) = 1#1) : IsReal a := by
  have h' : max a (-a) < ⊤ := by
    by_contra hn
    rw [ofBits_inf] at h
    have : Ideal.cmp .olt (max a (-a)) ⊤ = BitVec.ofBool (decide (max a (-a) < ⊤)) := rfl
    rw [this, decide_eq_false hn] at h
    exact absurd h (by decide)
  rw [max_lt_iff] at h'
  induction a with
  | bot => exact absurd h'.2 (by simp)
  | top => exact absurd h'.1 (lt_irrefl _)
  | coe r => exact ⟨r, rfl⟩

variable [Cert.Pre_finite.Facts] (x : FVec Ideal Cert.Pre_finite.S16384x4096 .f32) (w₁ : FVec Ideal Cert.Pre_finite.S4096x4096 .f32)
  (b₁ : FVec Ideal Cert.Pre_finite.S4096 .f32) (w₂ : FVec Ideal Cert.Pre_finite.S64x4096 .f32) (b₂ : FVec Ideal Cert.Pre_finite.S64 .f32)

theorem real_x (h : (Cert.Pre_finite.fn (F := Ideal) x w₁ b₁ w₂ b₂).1 = fun _ => 1#1) (i) : IsReal (x i) :=
  real_of_below (congrFun h i)
theorem real_w₁ (h : (Cert.Pre_finite.fn (F := Ideal) x w₁ b₁ w₂ b₂).2.1 = fun _ => 1#1) (i) : IsReal (w₁ i) :=
  real_of_below (congrFun h i)
theorem real_b₁ (h : (Cert.Pre_finite.fn (F := Ideal) x w₁ b₁ w₂ b₂).2.2.1 = fun _ => 1#1) (i) : IsReal (b₁ i) :=
  real_of_below (congrFun h i)
theorem real_w₂ (h : (Cert.Pre_finite.fn (F := Ideal) x w₁ b₁ w₂ b₂).2.2.2.1 = fun _ => 1#1) (i) : IsReal (w₂ i) :=
  real_of_below (congrFun h i)
theorem real_b₂ (h : (Cert.Pre_finite.fn (F := Ideal) x w₁ b₁ w₂ b₂).2.2.2.2 = fun _ => 1#1) (i) : IsReal (b₂ i) :=
  real_of_below (congrFun h i)

end Cert.Router
-- ==== Proof.Agree.lean ====
/-
The kernel and the reference, run from equal finite arguments, leave equal results.
-/
module

public import proofs.«01_k».proof.Defs
public import proofs.«01_k».proof.Proof.Results
public import proofs.«01_k».proof.Proof.RefLoss
public import proofs.«01_k».proof.Proof.Finite
public import proofs.«01_k».proof.Proof.Gen.ReferenceIdeal.Run
public import proofs.«01_k».proof.Proof.Gen.Pre_finite
public import Idealize.ShloMosaic.Lib.Quiescent
public import Idealize.ShloMosaic.Lib.Claim

@[expose] public section

set_option maxRecDepth 16384

noncomputable section

namespace Cert.Proof

open Idealize.ShloMosaic hiding ix1 ix2
open Idealize.ShloMosaic.TcCoe Idealize.ShloMosaic.ValueIdx Idealize.SL.Sem
open Cert.KernelIdeal.Windows Cert.KernelIdeal.Results Cert.Router

/-- The reference leaves its arguments unchanged; it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2.2.2, sem_eq_zero_of_no_sems (by decide) r.2⟩)
    (Cert.ReferenceIdeal.Value.run (F := Ideal) m g)

section results

variable (m : (ℓ : Loc Cert.KernelIdeal.nD Cert.KernelIdeal.τ Cert.KernelIdeal.sig) → Buf (Elt Ideal) ℓ)

/-- At finite arguments no score is `⊥`. -/
theorem bot_lt_score (h : Cert.Pre_KernelIdeal_finite (hPre_finite := Cert.Pre_finite.Gen.facts) m)
    (c : Dev Cert.KernelIdeal.nD) (r : Fin 16384) (e : Fin 64) :
    ⊥ < score (tokens m c) (weights₁ m c) (bias₁ m c) (weights₂ m c) (bias₂ m c) r e :=
  letI := Cert.Pre_finite.Gen.facts
  (score_real _ _ _ _ _ (real_x _ _ _ _ _ (h c).1) (real_w₁ _ _ _ _ _ (h c).2.1) (real_b₁ _ _ _ _ _ (h c).2.2.1)
    (real_w₂ _ _ _ _ _ (h c).2.2.2.1) (real_b₂ _ _ _ _ _ (h c).2.2.2.2) r e).bot_lt

theorem split (i : (⟨2, ![16384, 8]⟩ : Shape).Idx) : i = ix2 (i 0) (i 1) :=
  funext fun a => match a with | ⟨0, _⟩ => rfl | ⟨1, _⟩ => rfl

theorem weights_agree (h : Cert.Pre_KernelIdeal_finite (hPre_finite := Cert.Pre_finite.Gen.facts) m)
    (c : Dev Cert.KernelIdeal.nD) :
    Cert.ReferenceIdeal.Read.val_main_v27 (F := Ideal) (tokens m c) (weights₁ m c) (bias₁ m c) (weights₂ m c) (bias₂ m c)
      = weightsOut m c := by
  funext i
  obtain ⟨r, j, rfl⟩ : ∃ (r : Fin 16384) (j : Fin 8), i = ix2 r j := ⟨i 0, i 1, split i⟩
  exact Cert.ReferenceIdeal.Loss.weights_eq _ _ _ _ _ (bot_lt_score m h c) r j

theorem experts_agree (h : Cert.Pre_KernelIdeal_finite (hPre_finite := Cert.Pre_finite.Gen.facts) m)
    (c : Dev Cert.KernelIdeal.nD) :
    Cert.ReferenceIdeal.Read.val_main_indices (F := Ideal) (tokens m c) (weights₁ m c) (bias₁ m c) (weights₂ m c) (bias₂ m c)
      = expertsOut m c := by
  funext i
  obtain ⟨r, j, rfl⟩ : ∃ (r : Fin 16384) (j : Fin 8), i = ix2 r j := ⟨i 0, i 1, split i⟩
  exact Cert.ReferenceIdeal.Loss.indices_eq _ _ _ _ _ (bot_lt_score m h c) r j

theorem loss_agree (c : Dev Cert.KernelIdeal.nD) :
    Cert.ReferenceIdeal.Read.val_main_v50 (F := Ideal) (tokens m c) (weights₁ m c) (bias₁ m c) (weights₂ m c) (bias₂ m c)
      = lossOut m c := by
  funext i
  obtain rfl := Cert.KernelIdeal.Results.split_one i
  exact Cert.ReferenceIdeal.Loss.loss_eq _ _ _ _ _

end results

theorem agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨weightsOut m, expertsOut m, lossOut m, run_results m g, ?_⟩
  refine (θ_run _ _ _).mono (fun r h c => ?_) (Cert.ReferenceIdeal.Value.run (F := Ideal) m' g')
  obtain ⟨e0, e1, e2, e3, e4⟩ := hagree c
  obtain ⟨h0, h1, h2, hargs⟩ := h c
  refine ⟨h0.trans ?_, h1.trans ?_, h2.trans ?_, hargs⟩
  · rw [Cert.ReferenceIdeal.Read.val_main_v27_eq, e0, e1, e2, e3, e4]
    exact weights_agree m hpre c
  · refine (Cert.ReferenceIdeal.Read.val_main_indices_eq _ _ _ _ _).trans ?_
    rw [e0, e1, e2, e3, e4]
    exact experts_agree m hpre c
  · rw [Cert.ReferenceIdeal.Read.val_main_v50_eq, e0, e1, e2, e3, e4]
    exact loss_agree m c

end Cert.Proof
-- ==== Proof.lean ====
/-
The certificate's claim: the kernel and the reference run, leave their arguments unchanged and every counter at zero; the
idealized kernel is the kernel's own text; and over the extended reals, at finite arguments, the kernel's three results are
the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.KernelRun
public import proofs.«01_k».proof.Proof.IdealRun
public import proofs.«01_k».proof.Proof.Agree

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Cert.Kernel.Body.frame_claim m g,
    fun m g _ => Cert.KernelIdeal.Body.frame_claim m g,
    fun m g _ => Cert.KernelIdeal.Body.frame_claim m g,
    fun m g _ => reference_frame m g,
    fun m g _ => reference_frame m g,
    trivial,
    agree⟩

end Cert.Proof

end
